-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x3 : Shape := ⟨3, ![8, 2048, 3]⟩
abbrev S64x6 : Shape := ⟨2, ![64, 6]⟩
abbrev S64 : Shape := ⟨1, ![64]⟩
abbrev S64x128 : Shape := ⟨2, ![64, 128]⟩
abbrev S256x128 : Shape := ⟨2, ![256, 128]⟩
abbrev S256 : Shape := ⟨1, ![256]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel
  bcast_S_S64x6 : S_.BroadcastsInDim S64x6 (![] : Fin 0 → Fin S64x6.rank)
  reducesTo_S64x6_S_d0_1 : S64x6.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S256 .f32 := Host.absf main_arg8
  let main_cst_14 : FVec F S_ .f32 := constant S_ .f32 0x7F800000#32
  let main_v33 : FVec F S256 .f32 := broadcastInDim S256 ![] bcast_S_S256 main_cst_14
  let main_v34 : IVec S256 1 := cmpf .olt main_v32 main_v33
  let main_c_15 : IVec S_ 1 := constantI S_ 1 1#1
  let main_v35 : IVec S_ 1 := (fun x v => Host.reduce IntOp.andi x v reducesTo_S256_S_d0 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S64x128 .f32) (main_arg5 : FVec F S64 .f32) (main_arg6 : FVec F S64 .f32) (main_arg7 : FVec F S256x128 .f32) (main_arg8 : FVec F S256 .f32) (main_v3 : IVec S_ 1) (main_v7 : IVec S_ 1) (main_v11 : IVec S_ 1) (main_v15 : IVec S_ 1) : IVec S_ 1 :=
  let main_v16 : FVec F S64x128 .f32 := Host.absf main_arg4
  let main_cst_6 : FVec F S_ .f32 := constant S_ .f32 0x7F800000#32
  let main_v17 : FVec F S64x128 .f32 := broadcastInDim S64x128 ![] bcast_S_S64x128 main_cst_6
  let main_v18 : IVec S64x128 1 := cmpf .olt main_v16 main_v17
  let main_c_7 : IVec S_ 1 := constantI S_ 1 1#1
  let main_v19 : IVec S_ 1 := (fun x v => Host.reduce IntOp.andi x v reducesTo_S64x128_S_d0_1 h_S_) main_v18 main_c_7
  let main_v20 : FVec F S64 .f32 := Host.absf main_arg5
  let main_cst_8 : FVec F S_ .f32 := constant S_ .f32 0x7F800000#32
  let main_v21 : FVec F S64 .f32 := broadcastInDim S64 ![] bcast_S_S64 main_cst_8
  let main_v22 : IVec S64 1 := cmpf .olt main_v20 main_v21
  let main_c_9 : IVec S_ 1 := constantI S_ 1 1#1
  let main_v23 : IVec S_ 1 := (fun x v => Host.reduce IntOp.andi x v reducesTo_S64_S_d0 h_S_) main_v22 main_c_9
  let main_v24 : FVec F S64 .f32 := Host.absf main_arg6
  let main_cst_10 : FVec F S_ .f32 := constant S_ .f32 0x7F800000#32
  let main_v25 : FVec F S64 .f32 := broadcastInDim S64 ![] bcast_S_S64 main_cst_10
  let main_v26 : IVec S64 1 := cmpf .olt main_v24 main_v25
  let main_c_11 : IVec S_ 1 := constantI S_ 1 1#1
  let main_v27 : IVec S_ 1 := (fun x v => Host.reduce IntOp.andi x v reducesTo_S64_S_d0 h_S_) main_v26 main_c_11
  let main_v28 : FVec F S256x128 .f32 := Host.absf main_arg7
  let main_cst_12 : FVec F S_ .f32 := constant S_ .f32 0x7F800000#32
  let main_v29 : FVec F S256x128 .f32 := broadcastInDim S256x128 ![] bcast_S_S256x128 main_cst_12
  let main_v30 : IVec S256x128 1 := cmpf .olt main_v28 main_v29
  let main_c_13 : IVec S_ 1 := constantI S_ 1 1#1
  let main_v31 : IVec S_ 1 := (fun x v => Host.reduce IntOp.andi x v reducesTo_S256x128_S_d0_1 h_S_) main_v30 main_c_13
  fn_part2 (F := F) main_arg8 main_v3 main_v7 main_v11 main_v15 main_v19 main_v23 main_v27 main_v31

def fn {F : FTy → Type} [FloatOps F] (main_arg0 : FVec F S8x2048x3 .f32) (main_arg1 : FVec F S64x6 .f32) (main_arg2 : FVec F S64 .f32) (main_arg3 : FVec F S64 .f32) (main_arg4 : FVec F S64x128 .f32) (main_arg5 : FVec F S64 .f32) (main_arg6 : FVec F S64 .f32) (main_arg7 : FVec F S256x128 .f32) (main_arg8 : FVec F S256 .f32) (main_arg9 : FVec F S256 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S64x6 .f32 := Host.absf main_arg1
  let main_cst_0 : FVec F S_ .f32 := constant S_ .f32 0x7F800000#32
  let main_v5 : FVec F S64x6 .f32 := broadcastInDim S64x6 ![] bcast_S_S64x6 main_cst_0
  let main_v6 : IVec S64x6 1 := cmpf .olt main_v4 main_v5
  let main_c_1 : IVec S_ 1 := constantI S_ 1 1#1
  let main_v7 : IVec S_ 1 := (fun x v => Host.reduce IntOp.andi x v reducesTo_S64x6_S_d0_1 h_S_) main_v6 main_c_1
  let main_v8 : FVec F S64 .f32 := Host.absf main_arg2
  let main_cst_2 : FVec F S_ .f32 := constant S_ .f32 0x7F800000#32
  let main_v9 : FVec F S64 .f32 := broadcastInDim S64 ![] bcast_S_S64 main_cst_2
  let main_v10 : IVec S64 1 := cmpf .olt main_v8 main_v9
  let main_c_3 : IVec S_ 1 := constantI S_ 1 1#1
  let main_v11 : IVec S_ 1 := (fun x v => Host.reduce IntOp.andi x v reducesTo_S64_S_d0 h_S_) main_v10 main_c_3
  let main_v12 : FVec F S64 .f32 := Host.absf main_arg3
  let main_cst_4 : FVec F S_ .f32 := constant S_ .f32 0x7F800000#32
  let main_v13 : FVec F S64 .f32 := broadcastInDim S64 ![] bcast_S_S64 main_cst_4
  let main_v14 : IVec S64 1 := cmpf .olt main_v12 main_v13
  let main_c_5 : IVec S_ 1 := constantI S_ 1 1#1
  let main_v15 : IVec S_ 1 := (fun x v => Host.reduce IntOp.andi x v reducesTo_S64_S_d0 h_S_) main_v14 main_c_5
  fn_part1 (F := F) main_arg4 main_arg5 main_arg6 main_arg7 main_arg8 main_v3 main_v7 main_v11 main_v15
-- ==== Kernel.lean ====
abbrev S8x2048x3 : Shape := ⟨3, ![8, 2048, 3]⟩
abbrev S64x6 : Shape := ⟨2, ![64, 6]⟩
abbrev S64 : Shape := ⟨1, ![64]⟩
abbrev S64x128 : Shape := ⟨2, ![64, 128]⟩
abbrev S256x128 : Shape := ⟨2, ![256, 128]⟩
abbrev S256 : Shape := ⟨1, ![256]⟩
abbrev S_ : Shape := ⟨0, ![]⟩
abbrev S8x2048x5 : Shape := ⟨3, ![8, 2048, 5]⟩
abbrev S8x2048x8 : Shape := ⟨3, ![8, 2048, 8]⟩
abbrev S8x8x2048 : Shape := ⟨3, ![8, 8, 2048]⟩
abbrev S5x64 : Shape := ⟨2, ![5, 64]⟩
abbrev S64x3 : Shape := ⟨2, ![64, 3]⟩
abbrev S3x64 : Shape := ⟨2, ![3, 64]⟩
abbrev S16x64 : Shape := ⟨2, ![16, 64]⟩
abbrev S8x2048x20 : Shape := ⟨3, ![8, 2048, 20]⟩
abbrev S1x8x2048 : Shape := ⟨3, ![1, 8, 2048]⟩
abbrev S1x256x8 : Shape := ⟨3, ![1, 256, 8]⟩
abbrev S1x256x20 : Shape := ⟨3, ![1, 256, 20]⟩
abbrev S256x8 : Shape := ⟨2, ![256, 8]⟩
abbrev S8x2048 : Shape := ⟨2, ![8, 2048]⟩
abbrev S2048 : Shape := ⟨1, ![2048]⟩
abbrev S1x2048 : Shape := ⟨2, ![1, 2048]⟩
abbrev S256x1 : Shape := ⟨2, ![256, 1]⟩
abbrev S256x2048 : Shape := ⟨2, ![256, 2048]⟩
abbrev S256x20 : Shape := ⟨2, ![256, 20]⟩
abbrev S8x2048x64 : Shape := ⟨3, ![8, 2048, 64]⟩
abbrev S8x64 : Shape := ⟨2, ![8, 64]⟩
abbrev S1x2048x8 : Shape := ⟨3, ![1, 2048, 8]⟩
abbrev S1x256x64 : Shape := ⟨3, ![1, 256, 64]⟩
abbrev S2048x8 : Shape := ⟨2, ![2048, 8]⟩
abbrev S256x16 : Shape := ⟨2, ![256, 16]⟩
abbrev S256x64 : Shape := ⟨2, ![256, 64]⟩
abbrev S1x64 : Shape := ⟨2, ![1, 64]⟩
abbrev S6x64 : Shape := ⟨2, ![6, 64]⟩
abbrev S1x2048x64 : Shape := ⟨3, ![1, 2048, 64]⟩
abbrev S2048x64 : Shape := ⟨2, ![2048, 64]⟩
abbrev S8x64x2048 : Shape := ⟨3, ![8, 64, 2048]⟩
abbrev S128x64 : Shape := ⟨2, ![128, 64]⟩
abbrev S1x64x2048 : Shape := ⟨3, ![1, 64, 2048]⟩
abbrev S64x2048 : Shape := ⟨2, ![64, 2048]⟩
abbrev S128x256 : Shape := ⟨2, ![128, 256]⟩
abbrev S8x2048x256 : Shape := ⟨3, ![8, 2048, 256]⟩
abbrev S8x256 : Shape := ⟨2, ![8, 256]⟩
abbrev S1x512x64 : Shape := ⟨3, ![1, 512, 64]⟩
abbrev S1x512x256 : Shape := ⟨3, ![1, 512, 256]⟩
abbrev S512x64 : Shape := ⟨2, ![512, 64]⟩
abbrev S512x128 : Shape := ⟨2, ![512, 128]⟩
abbrev S512x256 : Shape := ⟨2, ![512, 256]⟩
abbrev S1x256 : Shape := ⟨2, ![1, 256]⟩
abbrev S6x256 : Shape := ⟨2, ![6, 256]⟩
abbrev S1x2048x256 : Shape := ⟨3, ![1, 2048, 256]⟩
abbrev S2048x256 : Shape := ⟨2, ![2048, 256]⟩

abbrev nBuf : Space → Nat
  | .hbm => 99
  | .vmem => 64
  | .smem => 0
  | _ => 0

abbrev bufTy : (tb : Table) → Fin (tcTables nBuf tb) → BufTy
  | .hbm, ⟨0, _⟩ => ⟨S8x2048x3, .f32⟩
  | .hbm, ⟨1, _⟩ => ⟨S64x6, .f32⟩
  | .hbm, ⟨2, _⟩ => ⟨S64, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S64, .f32⟩
  | .hbm, ⟨7, _⟩ => ⟨S256x128, .f32⟩
  | .hbm, ⟨8, _⟩ => ⟨S256, .f32⟩
  | .hbm, ⟨9, _⟩ => ⟨S256, .f32⟩
  | .hbm, ⟨10, _⟩ => ⟨S_, .f32⟩
  | .hbm, ⟨11, _⟩ => ⟨S8x2048x5, .f32⟩
  | .hbm, ⟨12, _⟩ => ⟨S8x2048x8, .f32⟩
  | .hbm, ⟨13, _⟩ => ⟨S8x8x2048, .f32⟩
  | .hbm, ⟨14, _⟩ => ⟨S_, .f32⟩
  | .hbm, ⟨15, _⟩ => ⟨S5x64, .f32⟩
  | .hbm, ⟨16, _⟩ => ⟨S64x3, .f32⟩
  | .hbm, ⟨17, _⟩ => ⟨S3x64, .f32⟩
  | .hbm, ⟨18, _⟩ => ⟨S64x3, .f32⟩
  | .hbm, ⟨19, _⟩ => ⟨S3x64, .f32⟩
  | .hbm, ⟨20, _⟩ => ⟨S16x64, .f32⟩
  | .hbm, ⟨21, _⟩ => ⟨S8x2048x20, .i32⟩
  | .hbm, ⟨22, _⟩ => ⟨S8x2048x64, .f32⟩
  | .hbm, ⟨23, _⟩ => ⟨S8x2048x64, .f32⟩
  | .hbm, ⟨24, _⟩ => ⟨S8x64, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S64, .f32⟩
  | .hbm, ⟨44, _⟩ => ⟨S1x64, .f32⟩
  | .hbm, ⟨45, _⟩ => ⟨S1x64, .f32⟩
  | .hbm, ⟨46, _⟩ => ⟨S8x2048x64, .f32⟩
  | .hbm, ⟨47, _⟩ => ⟨S8x64x2048, .f32⟩
  | .hbm, ⟨48, _⟩ => ⟨S128x64, .f32⟩
  | .hbm, ⟨49, _⟩ => ⟨S8x2048x20, .i32⟩
  | .hbm, ⟨50, _⟩ => ⟨S8x2048x64, .f32⟩
  | .hbm, ⟨51, _⟩ => ⟨S8x2048x64, .f32⟩
  | .hbm, ⟨52, _⟩ => ⟨S8x64, .f32⟩
  | .hbm, ⟨53, _⟩ => ⟨S1x64, .f32⟩
  | .hbm, ⟨54, _⟩ => ⟨S64, .f32⟩
  | .hbm, ⟨55, _⟩ => ⟨S1x64, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S1x64, .f32⟩
  | .hbm, ⟨73, _⟩ => ⟨S1x64, .f32⟩
  | .hbm, ⟨74, _⟩ => ⟨S128x256, .f32⟩
  | .hbm, ⟨75, _⟩ => ⟨S8x2048x256, .f32⟩
  | .hbm, ⟨76, _⟩ => ⟨S8x256, .f32⟩
  | .hbm, ⟨77, _⟩ => ⟨S1x256, .f32⟩
  | .hbm, ⟨78, _⟩ => ⟨S256, .f32⟩
  | .hbm, ⟨79, _⟩ => ⟨S1x256, .f32⟩
  | .hbm, ⟨80, _⟩ => ⟨S256, .f32⟩
  | .hbm, ⟨81, _⟩ => ⟨S_, .f32⟩
  | .hbm, ⟨82, _⟩ => ⟨S256, .f32⟩
  | .hbm, ⟨83, _⟩ => ⟨S256, .f32⟩
  | .hbm, ⟨84, _⟩ => ⟨S_, .f32⟩
  | .hbm, ⟨85, _⟩ => ⟨S256, .f32⟩
  | .hbm, ⟨86, _⟩ => ⟨S256, .f32⟩
  | .hbm, ⟨87, _⟩ => ⟨S256, .f32⟩
  | .hbm, ⟨88, _⟩ => ⟨S256, .f32⟩
  | .hbm, ⟨89, _⟩ => ⟨S_, .f32⟩
  | .hbm, ⟨90, _⟩ => ⟨S256, .f32⟩
  | .hbm, ⟨91, _⟩ => ⟨S256, .f32⟩
  | .hbm, ⟨92, _⟩ => ⟨S256, .f32⟩
  | .hbm, ⟨93, _⟩ => ⟨S256, .f32⟩
  | .hbm, ⟨94, _⟩ => ⟨S256, .f32⟩
  | .hbm, ⟨95, _⟩ => ⟨S256, .f32⟩
  | .hbm, ⟨96, _⟩ => ⟨S1x256, .f32⟩
  | .hbm, ⟨97, _⟩ => ⟨S1x256, .f32⟩
  | .hbm, ⟨98, _⟩ => ⟨S8x2048x256, .f32⟩
  | .local _ .vmem, ⟨0, _⟩ => ⟨S1x8x2048, .f32⟩
  | .local _ .vmem, ⟨1, _⟩ => ⟨S1x8x2048, .f32⟩
  | .local _ .vmem, ⟨2, _⟩ => ⟨S1x256x8, .f32⟩
  | .local _ .vmem, ⟨3, _⟩ => ⟨S1x256x8, .f32⟩
  | .local _ .vmem, ⟨4, _⟩ => ⟨S1x256x20, .i32⟩
  | .local _ .vmem, ⟨5, _⟩ => ⟨S1x256x20, .i32⟩
  | .local _ .vmem, ⟨6, _⟩ => ⟨S1x2048x8, .f32⟩
  | .local _ .vmem, ⟨7, _⟩ => ⟨S1x2048x8, .f32⟩
  | .local _ .vmem, ⟨8, _⟩ => ⟨S1x256x8, .f32⟩
  | .local _ .vmem, ⟨9, _⟩ => ⟨S1x256x8, .f32⟩
  | .local _ .vmem, ⟨10, _⟩ => ⟨S1x256x20, .i32⟩
  | .local _ .vmem, ⟨11, _⟩ => ⟨S1x256x20, .i32⟩
  | .local _ .vmem, ⟨12, _⟩ => ⟨S16x64, .f32⟩
  | .local _ .vmem, ⟨13, _⟩ => ⟨S1x256x64, .f32⟩
  | .local _ .vmem, ⟨14, _⟩ => ⟨S1x256x64, .f32⟩
  | .local _ .vmem, ⟨15, _⟩ => ⟨S1x256x64, .f32⟩
  | .local _ .vmem, ⟨16, _⟩ => ⟨S1x256x64, .f32⟩
  | .local _ .vmem, ⟨17, _⟩ => ⟨S8x64, .f32⟩
  | .local _ .vmem, ⟨18, _⟩ => ⟨S1x2048x64, .f32⟩
  | .local _ .vmem, ⟨19, _⟩ => ⟨S1x2048x64, .f32⟩
  | .local _ .vmem, ⟨20, _⟩ => ⟨S1x2048x64, .f32⟩
  | .local _ .vmem, ⟨21, _⟩ => ⟨S1x2048x64, .f32⟩
  | .local _ .vmem, ⟨22, _⟩ => ⟨S1x64, .f32⟩
  | .local _ .vmem, ⟨23, _⟩ => ⟨S1x64, .f32⟩
  | .local _ .vmem, ⟨24, _⟩ => ⟨S1x2048x64, .f32⟩
  | .local _ .vmem, ⟨25, _⟩ => ⟨S1x2048x64, .f32⟩
  | .local _ .vmem, ⟨26, _⟩ => ⟨S1x64x2048, .f32⟩
  | .local _ .vmem, ⟨27, _⟩ => ⟨S1x64x2048, .f32⟩
  | .local _ .vmem, ⟨28, _⟩ => ⟨S1x256x64, .f32⟩
  | .local _ .vmem, ⟨29, _⟩ => ⟨S1x256x64, .f32⟩
  | .local _ .vmem, ⟨30, _⟩ => ⟨S1x256x20, .i32⟩
  | .local _ .vmem, ⟨31, _⟩ => ⟨S1x256x20, .i32⟩
  | .local _ .vmem, ⟨32, _⟩ => ⟨S1x2048x64, .f32⟩
  | .local _ .vmem, ⟨33, _⟩ => ⟨S1x2048x64, .f32⟩
  | .local _ .vmem, ⟨34, _⟩ => ⟨S1x256x64, .f32⟩
  | .local _ .vmem, ⟨35, _⟩ => ⟨S1x256x64, .f32⟩
  | .local _ .vmem, ⟨36, _⟩ => ⟨S1x256x20, .i32⟩
  | .local _ .vmem, ⟨37, _⟩ => ⟨S1x256x20, .i32⟩
  | .local _ .vmem, ⟨38, _⟩ => ⟨S128x64, .f32⟩
  | .local _ .vmem, ⟨39, _⟩ => ⟨S1x256x64, .f32⟩
  | .local _ .vmem, ⟨40, _⟩ => ⟨S1x256x64, .f32⟩
  | .local _ .vmem, ⟨41, _⟩ => ⟨S1x256x64, .f32⟩
  | .local _ .vmem, ⟨42, _⟩ => ⟨S1x256x64, .f32⟩
  | .local _ .vmem, ⟨43, _⟩ => ⟨S8x64, .f32⟩
  | .local _ .vmem, ⟨44, _⟩ => ⟨S1x512x64, .f32⟩
  | .local _ .vmem, ⟨45, _⟩ => ⟨S1x512x64, .f32⟩
  | .local _ .vmem, ⟨46, _⟩ => ⟨S1x512x64, .f32⟩
  | .local _ .vmem, ⟨47, _⟩ => ⟨S1x512x64, .f32⟩
  | .local _ .vmem, ⟨48, _⟩ => ⟨S1x512x64, .f32⟩
  | .local _ .vmem, ⟨49, _⟩ => ⟨S1x512x64, .f32⟩
  | .local _ .vmem, ⟨50, _⟩ => ⟨S1x64, .f32⟩
  | .local _ .vmem, ⟨51, _⟩ => ⟨S1x64, .f32⟩
  | .local _ .vmem, ⟨52, _⟩ => ⟨S128x256, .f32⟩
  | .local _ .vmem, ⟨53, _⟩ => ⟨S1x512x256, .f32⟩
  | .local _ .vmem, ⟨54, _⟩ => ⟨S1x512x256, .f32⟩
  | .local _ .vmem, ⟨55, _⟩ => ⟨S8x256, .f32⟩
  | .local _ .vmem, ⟨56, _⟩ => ⟨S1x2048x256, .f32⟩
  | .local _ .vmem, ⟨57, _⟩ => ⟨S1x2048x256, .f32⟩
  | .local _ .vmem, ⟨58, _⟩ => ⟨S1x2048x256, .f32⟩
  | .local _ .vmem, ⟨59, _⟩ => ⟨S1x2048x256, .f32⟩
  | .local _ .vmem, ⟨60, _⟩ => ⟨S1x256, .f32⟩
  | .local _ .vmem, ⟨61, _⟩ => ⟨S1x256, .f32⟩
  | .local _ .vmem, ⟨62, _⟩ => ⟨S1x2048x256, .f32⟩
  | .local _ .vmem, ⟨63, _⟩ => ⟨S1x2048x256, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33_0 : Ref sig .tc := ⟨.hbm, 50, rfl⟩
abbrev main_v33_1 : Ref sig .tc := ⟨.hbm, 51, rfl⟩
abbrev main_v33_2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53_0 : Ref sig .tc := ⟨.hbm, 75, rfl⟩
abbrev main_v53_1 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_7 : Ref sig .tc := ⟨.hbm, 81, rfl⟩
abbrev main_v58 : Ref sig .tc := ⟨.hbm, 82, rfl⟩
abbrev main_v59 : Ref sig .tc := ⟨.hbm, 83, rfl⟩
abbrev main_cst_8 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg4_1 : Ref sig .tc := ⟨.vmem, 40, rfl⟩
abbrev cc4_stg5_0 : Ref sig .tc := ⟨.vmem, 41, rfl⟩
abbrev cc4_stg5_1 : Ref sig .tc := ⟨.vmem, 42, rfl⟩
abbrev cc4_stg6_0 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg6_0 : Ref sig .tc := ⟨.vmem, 53, rfl⟩
abbrev cc5_stg6_1 : Ref sig .tc := ⟨.vmem, 54, rfl⟩
abbrev cc5_stg7_0 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg3_0 : Ref sig .tc := ⟨.vmem, 61, rfl⟩
abbrev cc6_stg4_0 : Ref sig .tc := ⟨.vmem, 62, rfl⟩
abbrev cc6_stg4_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem4_0 : DmaSem sig := 39
abbrev cc4_sem4_1 : DmaSem sig := 40
abbrev cc4_sem5_0 : DmaSem sig := 41
abbrev cc4_sem5_1 : DmaSem sig := 42
abbrev cc4_sem6_0 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc5_sem3_0 : DmaSem sig := 50
abbrev cc5_sem4_0 : DmaSem sig := 51
abbrev cc5_sem5_0 : DmaSem sig := 52
abbrev cc5_sem6_0 : DmaSem sig := 53
abbrev cc5_sem6_1 : DmaSem sig := 54
abbrev cc5_sem7_0 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem3_0 : DmaSem sig := 61
abbrev cc6_sem4_0 : DmaSem sig := 62
abbrev cc6_sem4_1 : DmaSem sig := 63

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x20 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x2048x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x20 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S8x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x2048x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![8, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x64x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x256x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x256x20 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 8], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1x2048x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1x256x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x256x20 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S1x256x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S1x256x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 1 → Memref sig .tc .vmem S8x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev grid5 : Pipeline.Grid := ⟨2, ![8, 4], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S1x512x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x512x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x512x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S128x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 2 → Memref sig .tc .vmem S1x512x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev stage5_7 : Fin 1 → Memref sig .tc .vmem S8x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false, false]

abbrev grid6 : Pipeline.Grid := ⟨1, ![8], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x2048x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x2048x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S1x2048x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]
-- ==== KernelIdeal.lean ====
variable {F : FTy → Type} [FloatOps F] [Named F]
def κ : String → Option EReal := fun
  | "mask" => some ⊥
  | _ => none
-- ==== ReferenceIdeal.lean ====
abbrev S8x2048x3 : Shape := ⟨3, ![8, 2048, 3]⟩
abbrev S64x6 : Shape := ⟨2, ![64, 6]⟩
abbrev S64 : Shape := ⟨1, ![64]⟩
abbrev S64x128 : Shape := ⟨2, ![64, 128]⟩
abbrev S256x128 : Shape := ⟨2, ![256, 128]⟩
abbrev S256 : Shape := ⟨1, ![256]⟩
abbrev S8x3x2048 : Shape := ⟨3, ![8, 3, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x20 : Shape := ⟨3, ![8, 2048, 20]⟩
abbrev S8x2048x20x1 : Shape := ⟨4, ![8, 2048, 20, 1]⟩
abbrev S8x2048x20x3 : Shape := ⟨4, ![8, 2048, 20, 3]⟩
abbrev S8x2048x1x3 : Shape := ⟨4, ![8, 2048, 1, 3]⟩
abbrev S8x2048x20x6 : Shape := ⟨4, ![8, 2048, 20, 6]⟩
abbrev S8x6x2048x20 : Shape := ⟨4, ![8, 6, 2048, 20]⟩
abbrev S8x2048x20x64 : Shape := ⟨4, ![8, 2048, 20, 64]⟩
abbrev S8x64x2048x20 : Shape := ⟨4, ![8, 64, 2048, 20]⟩
abbrev S1x64x1x1 : Shape := ⟨4, ![1, 64, 1, 1]⟩
abbrev S8x64x2048 : Shape := ⟨3, ![8, 64, 2048]⟩
abbrev S8x2048x64 : Shape := ⟨3, ![8, 2048, 64]⟩
abbrev S8x2048x1x64 : Shape := ⟨4, ![8, 2048, 1, 64]⟩
abbrev S8x2048x20x128 : Shape := ⟨4, ![8, 2048, 20, 128]⟩
abbrev S8x128x2048x20 : Shape := ⟨4, ![8, 128, 2048, 20]⟩
abbrev S8x128x2048 : Shape := ⟨3, ![8, 128, 2048]⟩
abbrev S8x2048x256 : Shape := ⟨3, ![8, 2048, 256]⟩
abbrev S8x256x2048 : Shape := ⟨3, ![8, 256, 2048]⟩
abbrev S1x256x1 : Shape := ⟨3, ![1, 256, 1]⟩

abbrev nBuf : Space → Nat
  | .hbm => 243
  | .vmem => 0
  | .smem => 0
  | _ => 0

abbrev hbmTy0_0 (i : Nat) : BufTy := match i % 128 with
  | 0 => ⟨S8x2048x3, .f32⟩
  | 1 => ⟨S64x6, .f32⟩
  | 2 => ⟨S64, .f32⟩
  | 3 => ⟨S64, .f32⟩
  | 4 => ⟨S64x128, .f32⟩
  | 5 => ⟨S64, .f32⟩
  | 6 => ⟨S64, .f32⟩
  | 7 => ⟨S256x128, .f32⟩
  | 8 => ⟨S256, .f32⟩
  | 9 => ⟨S256, .f32⟩
  | 10 => ⟨S8x3x2048, .f32⟩
  | 11 => ⟨S8x2048x3, .f32⟩
  | 12 => ⟨S8x2048x2048, .f32⟩
  | 13 => ⟨S_, .f32⟩
  | 14 => ⟨S8x2048x2048, .f32⟩
  | 15 => ⟨S8x2048x2048, .f32⟩
  | 16 => ⟨S8x2048x3, .f32⟩
  | 17 => ⟨S_, .f32⟩
  | 18 => ⟨S8x2048, .f32⟩
  | 19 => ⟨S8x2048x1, .f32⟩
  | 20 => ⟨S8x2048x1, .f32⟩
  | 21 => ⟨S8x2048x2048, .f32⟩
  | 22 => ⟨S8x2048x2048, .f32⟩
  | 23 => ⟨S8x1x2048, .f32⟩
  | 24 => ⟨S8x2048x2048, .f32⟩
  | 25 => ⟨S8x2048x2048, .f32⟩
  | 26 => ⟨S8x2048x20, .f32⟩
  | 27 => ⟨S8x2048x20, .i32⟩
  | 28 => ⟨S8x2048x3, .f32⟩
  | 29 => ⟨S_, .i32⟩
  | 30 => ⟨S8x2048x20, .i32⟩
  | 31 => ⟨S8x2048x20, .i1⟩
  | 32 => ⟨S_, .i32⟩
  | 33 => ⟨S8x2048x20, .i32⟩
  | 34 => ⟨S8x2048x20, .i32⟩
  | 35 => ⟨S8x2048x20, .i32⟩
  | 36 => ⟨S8x2048x20x1, .i32⟩
  | 37 => ⟨S8x2048x20x3, .f32⟩
  | 38 => ⟨S8x2048x1x3, .f32⟩
  | 39 => ⟨S8x2048x20x3, .f32⟩
  | 40 => ⟨S8x2048x20x3, .f32⟩
  | 41 => ⟨S8x2048x20x6, .f32⟩
  | 42 => ⟨S8x6x2048x20, .f32⟩
  | 43 => ⟨S8x2048x20x64, .f32⟩
  | 44 => ⟨S8x64x2048x20, .f32⟩
  | 45 => ⟨S_, .f32⟩
  | 46 => ⟨S64, .f32⟩
  | 47 => ⟨S1x64x1x1, .f32⟩
  | 48 => ⟨S_, .f32⟩
  | 49 => ⟨S1x64x1x1, .f32⟩
  | 50 => ⟨S1x64x1x1, .f32⟩
  | 51 => ⟨S_, .i32⟩
  | 52 => ⟨S_, .f32⟩
  | 53 => ⟨S64, .f32⟩
  | 54 => ⟨S1x64x1x1, .f32⟩
  | 55 => ⟨S_, .f32⟩
  | 56 => ⟨S1x64x1x1, .f32⟩
  | 57 => ⟨S1x64x1x1, .f32⟩
  | 58 => ⟨S8x64x2048x20, .f32⟩
  | 59 => ⟨S8x64x2048x20, .f32⟩
  | 60 => ⟨S8x64x2048x20, .f32⟩
  | 61 => ⟨S_, .f32⟩
  | 62 => ⟨S_, .f32⟩
  | 63 => ⟨S_, .f32⟩
  | 64 => ⟨S_, .f32⟩
  | 65 => ⟨S64, .f32⟩
  | 66 => ⟨S1x64x1x1, .f32⟩
  | 67 => ⟨S1x64x1x1, .f32⟩
  | 68 => ⟨S1x64x1x1, .f32⟩
  | 69 => ⟨S_, .f32⟩
  | 70 => ⟨S_, .i1⟩
  | 71 => ⟨S_, .f32⟩
  | 72 => ⟨S_, .f32⟩
  | 73 => ⟨S1x64x1x1, .f32⟩
  | 74 => ⟨S1x64x1x1, .f32⟩
  | 75 => ⟨S8x64x2048x20, .f32⟩
  | 76 => ⟨S8x64x2048x20, .f32⟩
  | 77 => ⟨S_, .f32⟩
  | 78 => ⟨S1x64x1x1, .f32⟩
  | 79 => ⟨S1x64x1x1, .f32⟩
  | 80 => ⟨S1x64x1x1, .f32⟩
  | 81 => ⟨S8x64x2048x20, .f32⟩
  | 82 => ⟨S8x64x2048x20, .f32⟩
  | 83 => ⟨S1x64x1x1, .f32⟩
  | 84 => ⟨S8x64x2048x20, .f32⟩
  | 85 => ⟨S8x64x2048x20, .f32⟩
  | 86 => ⟨S1x64x1x1, .f32⟩
  | 87 => ⟨S8x64x2048x20, .f32⟩
  | 88 => ⟨S8x64x2048x20, .f32⟩
  | 89 => ⟨S_, .f32⟩
  | 90 => ⟨S_, .f32⟩
  | 91 => ⟨S8x64x2048x20, .f32⟩
  | 92 => ⟨S8x64x2048x20, .i1⟩
  | 93 => ⟨S_, .f32⟩
  | 94 => ⟨S8x64x2048x20, .f32⟩
  | 95 => ⟨S8x64x2048x20, .f32⟩
  | 96 => ⟨S8x64x2048x20, .f32⟩
  | 97 => ⟨S_, .f32⟩
  | 98 => ⟨S8x64x2048, .f32⟩
  | 99 => ⟨S8x2048x64, .f32⟩
  | 100 => ⟨S8x2048x2048, .f32⟩
  | 101 => ⟨S_, .f32⟩
  | 102 => ⟨S8x2048x2048, .f32⟩
  | 103 => ⟨S8x2048x2048, .f32⟩
  | 104 => ⟨S8x2048x64, .f32⟩
  | 105 => ⟨S_, .f32⟩
  | 106 => ⟨S8x2048, .f32⟩
  | 107 => ⟨S8x2048x1, .f32⟩
  | 108 => ⟨S8x2048x1, .f32⟩
  | 109 => ⟨S8x2048x2048, .f32⟩
  | 110 => ⟨S8x2048x2048, .f32⟩
  | 111 => ⟨S8x1x2048, .f32⟩
  | 112 => ⟨S8x2048x2048, .f32⟩
  | 113 => ⟨S8x2048x2048, .f32⟩
  | 114 => ⟨S8x2048x20, .f32⟩
  | 115 => ⟨S8x2048x20, .i32⟩
  | 116 => ⟨S8x2048x64, .f32⟩
  | 117 => ⟨S_, .i32⟩
  | 118 => ⟨S8x2048x20, .i32⟩
  | 119 => ⟨S8x2048x20, .i1⟩
  | 120 => ⟨S_, .i32⟩
  | 121 => ⟨S8x2048x20, .i32⟩
  | 122 => ⟨S8x2048x20, .i32⟩
  | 123 => ⟨S8x2048x20, .i32⟩
  | 124 => ⟨S8x2048x20x1, .i32⟩
  | 125 => ⟨S8x2048x20x64, .f32⟩
  | 126 => ⟨S8x2048x1x64, .f32⟩
  | 127 => ⟨S8x2048x20x64, .f32⟩
  | _ => ⟨S8x2048x3, .f32⟩

abbrev hbmTy0_1 (i : Nat) : BufTy := match i % 128 with
  | 0 => ⟨S8x2048x20x64, .f32⟩
  | 1 => ⟨S8x2048x20x128, .f32⟩
  | 2 => ⟨S8x128x2048x20, .f32⟩
  | 3 => ⟨S8x2048x20x64, .f32⟩
  | 4 => ⟨S8x64x2048x20, .f32⟩
  | 5 => ⟨S_, .f32⟩
  | 6 => ⟨S64, .f32⟩
  | 7 => ⟨S1x64x1x1, .f32⟩
  | 8 => ⟨S_, .f32⟩
  | 9 => ⟨S1x64x1x1, .f32⟩
  | 10 => ⟨S1x64x1x1, .f32⟩
  | 11 => ⟨S_, .i32⟩
  | 12 => ⟨S_, .f32⟩
  | 13 => ⟨S64, .f32⟩
  | 14 => ⟨S1x64x1x1, .f32⟩
  | 15 => ⟨S_, .f32⟩
  | 16 => ⟨S1x64x1x1, .f32⟩
  | 17 => ⟨S1x64x1x1, .f32⟩
  | 18 => ⟨S8x64x2048x20, .f32⟩
  | 19 => ⟨S8x64x2048x20, .f32⟩
  | 20 => ⟨S8x64x2048x20, .f32⟩
  | 21 => ⟨S_, .f32⟩
  | 22 => ⟨S_, .f32⟩
  | 23 => ⟨S_, .f32⟩
  | 24 => ⟨S_, .f32⟩
  | 25 => ⟨S64, .f32⟩
  | 26 => ⟨S1x64x1x1, .f32⟩
  | 27 => ⟨S1x64x1x1, .f32⟩
  | 28 => ⟨S1x64x1x1, .f32⟩
  | 29 => ⟨S_, .f32⟩
  | 30 => ⟨S_, .i1⟩
  | 31 => ⟨S_, .f32⟩
  | 32 => ⟨S_, .f32⟩
  | 33 => ⟨S1x64x1x1, .f32⟩
  | 34 => ⟨S1x64x1x1, .f32⟩
  | 35 => ⟨S8x64x2048x20, .f32⟩
  | 36 => ⟨S8x64x2048x20, .f32⟩
  | 37 => ⟨S_, .f32⟩
  | 38 => ⟨S1x64x1x1, .f32⟩
  | 39 => ⟨S1x64x1x1, .f32⟩
  | 40 => ⟨S1x64x1x1, .f32⟩
  | 41 => ⟨S8x64x2048x20, .f32⟩
  | 42 => ⟨S8x64x2048x20, .f32⟩
  | 43 => ⟨S1x64x1x1, .f32⟩
  | 44 => ⟨S8x64x2048x20, .f32⟩
  | 45 => ⟨S8x64x2048x20, .f32⟩
  | 46 => ⟨S1x64x1x1, .f32⟩
  | 47 => ⟨S8x64x2048x20, .f32⟩
  | 48 => ⟨S8x64x2048x20, .f32⟩
  | 49 => ⟨S_, .f32⟩
  | 50 => ⟨S_, .f32⟩
  | 51 => ⟨S8x64x2048x20, .f32⟩
  | 52 => ⟨S8x64x2048x20, .i1⟩
  | 53 => ⟨S_, .f32⟩
  | 54 => ⟨S8x64x2048x20, .f32⟩
  | 55 => ⟨S8x64x2048x20, .f32⟩
  | 56 => ⟨S8x64x2048x20, .f32⟩
  | 57 => ⟨S_, .f32⟩
  | 58 => ⟨S8x64x2048, .f32⟩
  | 59 => ⟨S8x128x2048, .f32⟩
  | 60 => ⟨S8x2048x256, .f32⟩
  | 61 => ⟨S8x256x2048, .f32⟩
  | 62 => ⟨S_, .f32⟩
  | 63 => ⟨S256, .f32⟩
  | 64 => ⟨S1x256x1, .f32⟩
  | 65 => ⟨S_, .f32⟩
  | 66 => ⟨S1x256x1, .f32⟩
  | 67 => ⟨S1x256x1, .f32⟩
  | 68 => ⟨S_, .i32⟩
  | 69 => ⟨S_, .f32⟩
  | 70 => ⟨S256, .f32⟩
  | 71 => ⟨S1x256x1, .f32⟩
  | 72 => ⟨S_, .f32⟩
  | 73 => ⟨S1x256x1, .f32⟩
  | 74 => ⟨S1x256x1, .f32⟩
  | 75 => ⟨S8x256x2048, .f32⟩
  | 76 => ⟨S8x256x2048, .f32⟩
  | 77 => ⟨S8x256x2048, .f32⟩
  | 78 => ⟨S_, .f32⟩
  | 79 => ⟨S_, .f32⟩
  | 80 => ⟨S_, .f32⟩
  | 81 => ⟨S_, .f32⟩
  | 82 => ⟨S256, .f32⟩
  | 83 => ⟨S1x256x1, .f32⟩
  | 84 => ⟨S1x256x1, .f32⟩
  | 85 => ⟨S1x256x1, .f32⟩
  | 86 => ⟨S_, .f32⟩
  | 87 => ⟨S_, .i1⟩
  | 88 => ⟨S_, .f32⟩
  | 89 => ⟨S_, .f32⟩
  | 90 => ⟨S1x256x1, .f32⟩
  | 91 => ⟨S1x256x1, .f32⟩
  | 92 => ⟨S8x256x2048, .f32⟩
  | 93 => ⟨S8x256x2048, .f32⟩
  | 94 => ⟨S_, .f32⟩
  | 95 => ⟨S1x256x1, .f32⟩
  | 96 => ⟨S1x256x1, .f32⟩
  | 97 => ⟨S1x256x1, .f32⟩
  | 98 => ⟨S8x256x2048, .f32⟩
  | 99 => ⟨S8x256x2048, .f32⟩
  | 100 => ⟨S1x256x1, .f32⟩
  | 101 => ⟨S8x256x2048, .f32⟩
  | 102 => ⟨S8x256x2048, .f32⟩
  | 103 => ⟨S1x256x1, .f32⟩
  | 104 => ⟨S8x256x2048, .f32⟩
  | 105 => ⟨S8x256x2048, .f32⟩
  | 106 => ⟨S_, .f32⟩
  | 107 => ⟨S_, .f32⟩
  | 108 => ⟨S8x256x2048, .f32⟩
  | 109 => ⟨S8x256x2048, .i1⟩
  | 110 => ⟨S_, .f32⟩
  | 111 => ⟨S8x256x2048, .f32⟩
  | 112 => ⟨S8x256x2048, .f32⟩
  | 113 => ⟨S8x256x2048, .f32⟩
  | 114 => ⟨S8x2048x256, .f32⟩
  | _ => ⟨S8x2048x3, .f32⟩

abbrev hbmTy (i : Nat) : BufTy := match i / 128 with
  | 0 => hbmTy0_0 i
  | 1 => hbmTy0_1 i
  | _ => ⟨S8x2048x3, .f32⟩

abbrev bufTy : (tb : Table) → Fin (tcTables nBuf tb) → BufTy
  | .hbm, ⟨i, _⟩ => hbmTy i
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_values : Ref sig .tc := ⟨.hbm, 26, rfl⟩
abbrev main_indices : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_cst_1 : Ref sig .tc := ⟨.hbm, 62, rfl⟩
abbrev main_call0_v8 : Ref sig .tc := ⟨.hbm, 63, rfl⟩
abbrev main_call0_cst_2 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_v12 : Ref sig .tc := ⟨.hbm, 68, rfl⟩
abbrev main_call0_cst_3 : Ref sig .tc := ⟨.hbm, 69, rfl⟩
abbrev main_call0_v13 : Ref sig .tc := ⟨.hbm, 70, rfl⟩
abbrev main_call0_cst_4 : Ref sig .tc := ⟨.hbm, 71, rfl⟩
abbrev main_call0_call0_v0 : Ref sig .tc := ⟨.hbm, 72, rfl⟩
abbrev main_call0_call0_v1 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_5 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_6 : Ref sig .tc := ⟨.hbm, 89, rfl⟩
abbrev main_call1_cst : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_v47 : Ref sig .tc := ⟨.hbm, 96, rfl⟩
abbrev main_cst_7 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_cst_8 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_cst_9 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_values_10 : Ref sig .tc := ⟨.hbm, 114, rfl⟩
abbrev main_indices_11 : Ref sig .tc := ⟨.hbm, 115, rfl⟩
abbrev main_v62 : Ref sig .tc := ⟨.hbm, 116, rfl⟩
abbrev main_c_12 : Ref sig .tc := ⟨.hbm, 117, rfl⟩
abbrev main_v63 : Ref sig .tc := ⟨.hbm, 118, rfl⟩
abbrev main_v64 : Ref sig .tc := ⟨.hbm, 119, rfl⟩
abbrev main_c_13 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_cst_14 : Ref sig .tc := ⟨.hbm, 133, rfl⟩
abbrev main_v77 : Ref sig .tc := ⟨.hbm, 134, rfl⟩
abbrev main_v78 : Ref sig .tc := ⟨.hbm, 135, rfl⟩
abbrev main_cst_15 : Ref sig .tc := ⟨.hbm, 136, rfl⟩
abbrev main_v79 : Ref sig .tc := ⟨.hbm, 137, rfl⟩
abbrev main_v80 : Ref sig .tc := ⟨.hbm, 138, rfl⟩
abbrev main_c_16 : Ref sig .tc := ⟨.hbm, 139, rfl⟩
abbrev main_call2_cst : Ref sig .tc := ⟨.hbm, 140, rfl⟩
abbrev main_call2_v0 : Ref sig .tc := ⟨.hbm, 141, rfl⟩
abbrev main_call2_v1 : Ref sig .tc := ⟨.hbm, 142, rfl⟩
abbrev main_call2_cst_0 : Ref sig .tc := ⟨.hbm, 143, rfl⟩
abbrev main_call2_v2 : Ref sig .tc := ⟨.hbm, 144, rfl⟩
abbrev main_call2_v3 : Ref sig .tc := ⟨.hbm, 145, rfl⟩
abbrev main_call2_v4 : Ref sig .tc := ⟨.hbm, 146, rfl⟩
abbrev main_call2_v5 : Ref sig .tc := ⟨.hbm, 147, rfl⟩
abbrev main_call2_v6 : Ref sig .tc := ⟨.hbm, 148, rfl⟩
abbrev main_call2_v7 : Ref sig .tc := ⟨.hbm, 149, rfl⟩
abbrev main_call2_cst_1 : Ref sig .tc := ⟨.hbm, 150, rfl⟩
abbrev main_call2_v8 : Ref sig .tc := ⟨.hbm, 151, rfl⟩
abbrev main_call2_cst_2 : Ref sig .tc := ⟨.hbm, 152, rfl⟩
abbrev main_call2_v9 : Ref sig .tc := ⟨.hbm, 153, rfl⟩
abbrev main_call2_v10 : Ref sig .tc := ⟨.hbm, 154, rfl⟩
abbrev main_call2_v11 : Ref sig .tc := ⟨.hbm, 155, rfl⟩
abbrev main_call2_v12 : Ref sig .tc := ⟨.hbm, 156, rfl⟩
abbrev main_call2_cst_3 : Ref sig .tc := ⟨.hbm, 157, rfl⟩
abbrev main_call2_v13 : Ref sig .tc := ⟨.hbm, 158, rfl⟩
abbrev main_call2_cst_4 : Ref sig .tc := ⟨.hbm, 159, rfl⟩
abbrev main_call2_call0_v0 : Ref sig .tc := ⟨.hbm, 160, rfl⟩
abbrev main_call2_call0_v1 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_cst_17 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_cst_18 : Ref sig .tc := ⟨.hbm, 177, rfl⟩
abbrev main_call3_cst : Ref sig .tc := ⟨.hbm, 178, rfl⟩
abbrev main_call3_v0 : Ref sig .tc := ⟨.hbm, 179, rfl⟩
abbrev main_call3_v1 : Ref sig .tc := ⟨.hbm, 180, rfl⟩
abbrev main_call3_v2 : Ref sig .tc := ⟨.hbm, 181, rfl⟩
abbrev main_call3_v3 : Ref sig .tc := ⟨.hbm, 182, rfl⟩
abbrev main_call3_v4 : Ref sig .tc := ⟨.hbm, 183, rfl⟩
abbrev main_v95 : Ref sig .tc := ⟨.hbm, 184, rfl⟩
abbrev main_cst_19 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_cst_20 : Ref sig .tc := ⟨.hbm, 190, rfl⟩
abbrev main_v100 : Ref sig .tc := ⟨.hbm, 191, rfl⟩
abbrev main_v101 : Ref sig .tc := ⟨.hbm, 192, rfl⟩
abbrev main_cst_21 : Ref sig .tc := ⟨.hbm, 193, rfl⟩
abbrev main_v102 : Ref sig .tc := ⟨.hbm, 194, rfl⟩
abbrev main_v103 : Ref sig .tc := ⟨.hbm, 195, rfl⟩
abbrev main_c_22 : Ref sig .tc := ⟨.hbm, 196, rfl⟩
abbrev main_call4_cst : Ref sig .tc := ⟨.hbm, 197, rfl⟩
abbrev main_call4_v0 : Ref sig .tc := ⟨.hbm, 198, rfl⟩
abbrev main_call4_v1 : Ref sig .tc := ⟨.hbm, 199, rfl⟩
abbrev main_call4_cst_0 : Ref sig .tc := ⟨.hbm, 200, rfl⟩
abbrev main_call4_v2 : Ref sig .tc := ⟨.hbm, 201, rfl⟩
abbrev main_call4_v3 : Ref sig .tc := ⟨.hbm, 202, rfl⟩
abbrev main_call4_v4 : Ref sig .tc := ⟨.hbm, 203, rfl⟩
abbrev main_call4_v5 : Ref sig .tc := ⟨.hbm, 204, rfl⟩
abbrev main_call4_v6 : Ref sig .tc := ⟨.hbm, 205, rfl⟩
abbrev main_call4_v7 : Ref sig .tc := ⟨.hbm, 206, rfl⟩
abbrev main_call4_cst_1 : Ref sig .tc := ⟨.hbm, 207, rfl⟩
abbrev main_call4_v8 : Ref sig .tc := ⟨.hbm, 208, rfl⟩
abbrev main_call4_cst_2 : Ref sig .tc := ⟨.hbm, 209, rfl⟩
abbrev main_call4_v9 : Ref sig .tc := ⟨.hbm, 210, rfl⟩
abbrev main_call4_v10 : Ref sig .tc := ⟨.hbm, 211, rfl⟩
abbrev main_call4_v11 : Ref sig .tc := ⟨.hbm, 212, rfl⟩
abbrev main_call4_v12 : Ref sig .tc := ⟨.hbm, 213, rfl⟩
abbrev main_call4_cst_3 : Ref sig .tc := ⟨.hbm, 214, rfl⟩
abbrev main_call4_v13 : Ref sig .tc := ⟨.hbm, 215, rfl⟩
abbrev main_call4_cst_4 : Ref sig .tc := ⟨.hbm, 216, rfl⟩
abbrev main_call4_call0_v0 : Ref sig .tc := ⟨.hbm, 217, rfl⟩
abbrev main_call4_call0_v1 : Ref sig .tc := ⟨.hbm, 218, rfl⟩
abbrev main_v104 : Ref sig .tc := ⟨.hbm, 219, rfl⟩
abbrev main_v105 : Ref sig .tc := ⟨.hbm, 220, rfl⟩
abbrev main_v106 : Ref sig .tc := ⟨.hbm, 221, rfl⟩
abbrev main_cst_23 : Ref sig .tc := ⟨.hbm, 222, rfl⟩
abbrev main_v107 : Ref sig .tc := ⟨.hbm, 223, rfl⟩
abbrev main_v108 : Ref sig .tc := ⟨.hbm, 224, rfl⟩
abbrev main_v109 : Ref sig .tc := ⟨.hbm, 225, rfl⟩
abbrev main_v110 : Ref sig .tc := ⟨.hbm, 226, rfl⟩
abbrev main_v111 : Ref sig .tc := ⟨.hbm, 227, rfl⟩
abbrev main_v112 : Ref sig .tc := ⟨.hbm, 228, rfl⟩
abbrev main_v113 : Ref sig .tc := ⟨.hbm, 229, rfl⟩
abbrev main_v114 : Ref sig .tc := ⟨.hbm, 230, rfl⟩
abbrev main_v115 : Ref sig .tc := ⟨.hbm, 231, rfl⟩
abbrev main_v116 : Ref sig .tc := ⟨.hbm, 232, rfl⟩
abbrev main_v117 : Ref sig .tc := ⟨.hbm, 233, rfl⟩
abbrev main_cst_24 : Ref sig .tc := ⟨.hbm, 234, rfl⟩
abbrev main_call5_cst : Ref sig .tc := ⟨.hbm, 235, rfl⟩
abbrev main_call5_v0 : Ref sig .tc := ⟨.hbm, 236, rfl⟩
abbrev main_call5_v1 : Ref sig .tc := ⟨.hbm, 237, rfl⟩
abbrev main_call5_v2 : Ref sig .tc := ⟨.hbm, 238, rfl⟩
abbrev main_call5_v3 : Ref sig .tc := ⟨.hbm, 239, rfl⟩
abbrev main_call5_v4 : Ref sig .tc := ⟨.hbm, 240, rfl⟩
abbrev main_v118 : Ref sig .tc := ⟨.hbm, 241, rfl⟩
abbrev main_v119 : Ref sig .tc := ⟨.hbm, 242, rfl⟩

abbrev nD : Nat := 1
abbrev τ : Topo := Topo.v7x

variable {F : FTy → Type} [FloatOps F]
-- ==== Proof.Frames.lean ====
/-
  The frames of the three programs and the named constant: the two kernel programs' frames are the generated ones; the
  reference's is its generated run read at the arguments.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run

@[expose] public section

noncomputable section

namespace Cert.Proof

open Idealize.ShloMosaic Idealize.SL.Sem

/-- The reference's frame at exact arithmetic: its run leaves every argument as launched, and it has no semaphore. -/
theorem reference_frame : Cert.quiescent_ReferenceIdeal (hReferenceIdeal := Cert.ReferenceIdeal.Gen.facts) := fun m g _ =>
  (θ_run (Cert.ReferenceIdeal.defs (F := Ideal)) _ _).mono (fun r h => And.intro (fun c => (h c).2)
      (Idealize.ShloMosaic.sem_eq_zero_of_no_sems (by decide) r.2))
    (Cert.ReferenceIdeal.Value.run (F := Ideal) m g)

/-- The mask constant `-3e38` is named `-∞` in the idealised kernel. -/
theorem mask_named : Cert.preserves_Kernel_KernelIdeal :=
  IdealRules.named_const.statement Cert.KernelIdeal.κ "mask" .f32 0xFF61B1E6#32 ⊥ rfl

end Cert.Proof

end
-- ==== Proof.Consts.lean ====
module

public import Idealize.ShloMosaic.PureOps.Ideal
public import Idealize.ShloMosaic.Lib.IdealHost

/-! The float patterns that the two programs write, as extended reals. -/

@[expose] public section

namespace Cert.Proof

open Idealize.ShloMosaic

/-- The pattern of minus infinity. -/
theorem word_bot : Ideal.ofBits .f32 0xFF800000#32 = ⊥ := by simp [Ideal.ofBits, Ideal.ieee]

/-- The pattern of plus infinity. -/
theorem word_top : Ideal.ofBits .f32 0x7F800000#32 = ⊤ := by simp [Ideal.ofBits, Ideal.ieee]

/-- The pattern of two. -/
theorem word_two : Ideal.ofBits .f32 0x40000000#32 = ((2 : ℝ) : EReal) := by
  simp [Ideal.ofBits, Ideal.ieee, -EReal.coe_mul]; norm_num

/-- The pattern of the number of edges, `8 * 2048 * 20`. -/
theorem word_edges : Ideal.ofBits .f32 0x48A00000#32 = ((327680 : ℝ) : EReal) := by
  simp [Ideal.ofBits, Ideal.ieee, -EReal.coe_mul]; norm_num

/-- The pattern of the number of points, `8 * 2048`. -/
theorem word_points : Ideal.ofBits .f32 0x46800000#32 = ((16384 : ℝ) : EReal) := by
  simp [Ideal.ofBits, Ideal.ieee, -EReal.coe_mul]; norm_num

/-- What is added to a variance before the root. -/
noncomputable def eps : ℝ := (2 ^ 23 + 2606508 : ℕ) * (2 : ℝ) ^ (-40 : ℤ)

/-- The slope of the activation below zero. -/
noncomputable def slope : ℝ := (2 ^ 23 + 5033165 : ℕ) * (2 : ℝ) ^ (-26 : ℤ)

/-- The variance offset is positive. -/
theorem eps_pos : 0 < eps := by unfold eps; positivity

/-- The rectifier's slope is not negative. -/
theorem slope_nonneg : 0 ≤ slope := by unfold slope; positivity

/-- The pattern of the variance offset. -/
theorem word_eps : Ideal.ofBits .f32 0x3727C5AC#32 = (eps : EReal) := by
  simp [Ideal.ofBits, Ideal.ieee, -EReal.coe_mul, eps]

/-- The pattern of the rectifier's slope. -/
theorem word_slope : Ideal.ofBits .f32 0x3E4CCCCD#32 = (slope : EReal) := by
  simp [Ideal.ofBits, Ideal.ieee, -EReal.coe_mul, slope]

/-- A finite sum of reals, taken in the extended reals, is the real sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

end Cert.Proof

end
-- ==== Proof.Finite.lean ====
module

public import proofs.«01_k».proof.Pre_finite
public import proofs.«01_k».proof.Proof.Consts

/-! What the precondition says of the arguments: every entry of the first nine is a real number. -/

@[expose] public section

set_option maxRecDepth 16384

noncomputable section

namespace Cert.Proof

open Idealize.ShloMosaic

/-- The shape relations the printed precondition takes. -/
theorem pre_facts : Cert.Pre_finite.Facts where
  bcast_S_S8x2048x3 := by decide
  reducesTo_S8x2048x3_S_d0_1_2 := by decide
  h_S_ := by decide
  bcast_S_S64x6 := by decide
  reducesTo_S64x6_S_d0_1 := by decide
  bcast_S_S64 := by decide
  reducesTo_S64_S_d0 := by decide
  bcast_S_S64x128 := by decide
  reducesTo_S64x128_S_d0_1 := by decide
  bcast_S_S256x128 := by decide
  reducesTo_S256x128_S_d0_1 := by decide
  bcast_S_S256 := by decide
  reducesTo_S256_S_d0 := by decide

/-- A conjunction of two bits is set when both are. -/
theorem and_bit (a b : BitVec 1) : IntOp.andi a b = 1#1 ↔ a = 1#1 ∧ b = 1#1 := by
  unfold IntOp.andi
  rcases BitVec.eq_zero_or_eq_one a with rfl | rfl <;> rcases BitVec.eq_zero_or_eq_one b with rfl | rfl <;> decide

/-- A conjunction over a finite set is set only if every member's bit is. -/
theorem and_all {ι : Type} [DecidableEq ι] (S : Finset ι) (f : ι → BitVec 1) (z : BitVec 1) (h : S.fold IntOp.andi z f = 1#1) :
    ∀ i ∈ S, f i = 1#1 := by
  induction S using Finset.cons_induction with
  | empty => intro i hi; exact absurd hi (Finset.notMem_empty i)
  | cons a S ha ih =>
    rw [Finset.fold_cons, and_bit] at h
    intro i hi
    rcases Finset.mem_cons.mp hi with rfl | hi
    · exact h.1
    · exact ih h.2 i hi

/-- The test `all (|a| < inf)` of one array. -/
def testE {s : Shape} {axes : List (Fin s.rank)} (a : FVec Ideal s .f32) (hb : (⟨0, ![]⟩ : Shape).BroadcastsInDim s ![]) (hr : s.ReducesTo axes ⟨0, ![]⟩)
    (hz : 0 < (⟨0, ![]⟩ : Shape).numel) : IVec ⟨0, ![]⟩ 1 :=
  Host.reduce IntOp.andi (cmpf .olt (Host.absf a) (broadcastInDim s ![] hb (constant (F := Ideal) ⟨0, ![]⟩ .f32 0x7F800000#32))) (constantI ⟨0, ![]⟩ 1 1#1) hr hz

/-- An array that passes the test has a real number at every index. -/
theorem real_of_test {s : Shape} {axes : List (Fin s.rank)} (a : FVec Ideal s .f32) (hb : (⟨0, ![]⟩ : Shape).BroadcastsInDim s ![]) (hr : s.ReducesTo axes ⟨0, ![]⟩)
    (hz : 0 < (⟨0, ![]⟩ : Shape).numel) (j : (⟨0, ![]⟩ : Shape).Idx) (h : testE a hb hr hz j = 1#1) (i : s.Idx) :
    a i = (((a i : EReal).toReal : ℝ) : EReal) := by
  unfold testE at h
  rw [Host.reduce_eq_fold] at h
  have hi := and_all _ _ _ h i (Finset.mem_filter.mpr ⟨Finset.mem_univ _, funext fun k => k.elim0⟩)
  have hlt : max (a i : EReal) (-(a i : EReal)) < ⊤ := by
    have h2 : BitVec.ofBool (decide (max (a i : EReal) (-(a i : EReal)) < Ideal.ofBits .f32 0x7F800000#32)) = 1#1 := hi
    rw [word_top] at h2
    by_contra hn
    rw [decide_eq_false hn] at h2
    exact absurd h2 (by decide)
  have h1 : (a i : EReal) ≠ ⊤ := fun e => by rw [e] at hlt; simp at hlt
  have h2 : (a i : EReal) ≠ ⊥ := fun e => by rw [e] at hlt; simp at hlt
  exact (EReal.coe_toReal h1 h2).symm

attribute [local instance] pre_facts

open Cert.Pre_finite in
/-- The precondition gives nine arrays of real numbers. -/
theorem pre_real (a0 : FVec Ideal S8x2048x3 .f32) (a1 : FVec Ideal S64x6 .f32) (a2 a3 : FVec Ideal S64 .f32) (a4 : FVec Ideal S64x128 .f32)
    (a5 a6 : FVec Ideal S64 .f32) (a7 : FVec Ideal S256x128 .f32) (a8 a9 : FVec Ideal S256 .f32)
    (h : Cert.Pre_finite.fn (F := Ideal) a0 a1 a2 a3 a4 a5 a6 a7 a8 a9 = fun _ => 1#1) :
    (∀ i, a0 i = (((a0 i : EReal).toReal : ℝ) : EReal)) ∧ (∀ i, a1 i = (((a1 i : EReal).toReal : ℝ) : EReal)) ∧ (∀ i, a2 i = (((a2 i : EReal).toReal : ℝ) : EReal))
      ∧ (∀ i, a3 i = (((a3 i : EReal).toReal : ℝ) : EReal)) ∧ (∀ i, a4 i = (((a4 i : EReal).toReal : ℝ) : EReal)) ∧ (∀ i, a5 i = (((a5 i : EReal).toReal : ℝ) : EReal))
      ∧ (∀ i, a6 i = (((a6 i : EReal).toReal : ℝ) : EReal)) ∧ (∀ i, a7 i = (((a7 i : EReal).toReal : ℝ) : EReal)) ∧ (∀ i, a8 i = (((a8 i : EReal).toReal : ℝ) : EReal)) := by
  have e := congrFun h (Shape.Idx.first pre_facts.h_S_)
  unfold Cert.Pre_finite.fn Cert.Pre_finite.fn_part1 Cert.Pre_finite.fn_part2 at e
  simp only [andi, and_bit] at e
  obtain ⟨⟨⟨⟨⟨⟨⟨⟨e0, e1⟩, e2⟩, e3⟩, e4⟩, e5⟩, e6⟩, e7⟩, e8⟩ := e
  exact ⟨real_of_test a0 _ _ _ _ e0, real_of_test a1 _ _ _ _ e1, real_of_test a2 _ _ _ _ e2, real_of_test a3 _ _ _ _ e3, real_of_test a4 _ _ _ _ e4,
    real_of_test a5 _ _ _ _ e5, real_of_test a6 _ _ _ _ e6, real_of_test a7 _ _ _ _ e7, real_of_test a8 _ _ _ _ e8⟩

end Cert.Proof

end

end
-- ==== Proof.KernelRun.lean ====
module

public import proofs.«01_k».proof.Proof.Gen.KernelIdeal.Frame

/-! The run of the kernel, with what every buffer of the main thread holds at its end. -/

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel ends, and its result array ends at the contents that the last boundary of the run gives. -/
theorem kernel_run : θ_run defs (onTc (τ := τ) (main (F := F))) ⟨m, fun _ => 0, ρ⟩ (fun r => ∀ c : Dev nD,
    r.2.mem ((c.tc : Thread nD τ).loc main_v72) = W12 m ρ c (Proc.devRef .tc main_v72)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => fun c => h c _ (mem_uc main_v72 (by decide)))

end Cert.Proof

end

end
-- ==== Proof.Order.lean ====
module

public import Idealize.ShloMosaic.Lib.SortPrefix
public import Mathlib.Data.EReal.Basic

/-! The order in which the twenty nearest neighbours of a point are listed: greater first, and of two equal values the lower
    position first. It is what a stable descending sort leaves, and what twenty rounds of "take the greatest, lowest position
    first, then strike it out" find. -/

@[expose] public section

noncomputable section

namespace Cert.Proof

open Idealize.ShloMosaic

/-- "`p` is listed before `q`" by value alone. -/
def above {n : ℕ} (f : Fin n → EReal) (p q : Fin n) : Bool := decide (f q < f p)

/-- "`p` is listed before `q`", ties by position. -/
def aboveTied {n : ℕ} (f : Fin n → EReal) (p q : Fin n) : Bool :=
  decide (f q < f p) || (decide (f p = f q) && decide (p < q))

/-- `aboveTied` is a strict total order on the positions. -/
theorem aboveTied_total {n : ℕ} (f : Fin n → EReal) : StrictTotalBefore (aboveTied f) :=
  StrictTotalBefore.of_key_then_position (fun a b : EReal => decide (b < a)) f (by simp)
    (fun a b c h h' => by simp only [decide_eq_true_eq] at *; exact lt_trans h' h)
    (fun a b => by
      simp only [decide_eq_true_eq]
      rcases lt_trichotomy a b with h | h | h
      · exact Or.inr (Or.inr h)
      · exact Or.inr (Or.inl h)
      · exact Or.inl h)

/-- On an increasing list of positions, the stable sort by value is the sort with ties broken by position. -/
theorem stableSort_above {n : ℕ} (f : Fin n → EReal) (l : List (Fin n)) (hl : l.Pairwise (· < ·)) :
    stableSort (above f) l = stableSort (aboveTied f) l := by
  induction l with
  | nil => rfl
  | cons a l ih =>
    rw [List.pairwise_cons] at hl
    unfold stableSort
    rw [ih hl.2]
    refine insertBefore_congr _ _ _ _ fun b hb => ?_
    have hlt : a < b := hl.1 b ((perm_stableSort _ l).mem_iff.mp hb)
    simp [above, aboveTied, not_lt.mpr hlt.le]

/-- The position that a stable descending sort puts at place `k`. -/
theorem sortedFrom_above {n : ℕ} (f : Fin n → EReal) (k : Fin n) : sortedFrom (above f) k = sortedFrom (aboveTied f) k := by
  have h : sortPositions n (above f) = sortPositions n (aboveTied f) :=
    stableSort_above f _ (List.pairwise_lt_finRange n)
  simp only [sortedFrom, List.get_eq_getElem, h, Fin.val_cast]

/-- The `k`-th of the twenty greatest entries of a row of 2048, as a position. -/
def nbr (f : Fin 2048 → EReal) (k : Fin 20) : Fin 2048 := sortedFrom (above f) (k.castLE (by decide))

/-- `p` is the lowest position of the row's greatest entry. -/
def IsTop (f : Fin 2048 → EReal) (p : Fin 2048) : Prop := (∀ q, f q ≤ f p) ∧ ∀ q, q < p → f q < f p

/-- Twenty rounds of taking the top and striking it out list the twenty greatest entries, in order. -/
theorem nbr_eq_of_rounds (f : Fin 2048 → EReal) (hf : ∀ p, f p ≠ ⊥) (v : ℕ → Fin 2048 → EReal) (σ : ℕ → Fin 2048)
    (h0 : v 0 = f) (hs : ∀ k, v (k + 1) = fun p => if p = σ k then ⊥ else v k p)
    (ht : ∀ k, k < 20 → IsTop (v k) (σ k)) (k : Fin 20) : nbr f k = σ k := by
  classical
  have hv : ∀ k p, v k p = if ∃ j, j < k ∧ σ j = p then ⊥ else f p := by
    intro k
    induction k with
    | zero => intro p; simp [h0]
    | succ k ih =>
      intro p
      rw [hs k]
      by_cases hp : p = σ k
      · have : ∃ j, j < k + 1 ∧ σ j = p := ⟨k, by omega, hp.symm⟩
        simp [hp]
        intro h; exact absurd rfl (h k (by omega))
      · simp only [hp, if_false]
        rw [ih p]
        have : (∃ j, j < k + 1 ∧ σ j = p) ↔ ∃ j, j < k ∧ σ j = p := by
          constructor
          · rintro ⟨j, hj, e⟩
            refine ⟨j, ?_, e⟩
            rcases Nat.lt_succ_iff_lt_or_eq.mp hj with h | h
            · exact h
            · subst h; exact absurd e.symm hp
          · rintro ⟨j, hj, e⟩; exact ⟨j, by omega, e⟩
        simp only [this]
  -- an entry that is still there
  have hfresh : ∀ k, k < 20 → ∃ p : Fin 2048, ∀ j, j < k → σ j ≠ p := by
    intro k hk
    by_contra hcon
    push Not at hcon
    choose g hg hg' using hcon
    have hinj : Function.Injective (fun p : Fin 2048 => (⟨g p, hg p⟩ : Fin k)) := by
      intro p q h
      have : g p = g q := by simpa using congrArg Fin.val h
      rw [← hg' p, ← hg' q, this]
    have := Fintype.card_le_of_injective _ hinj
    simp at this; omega
  have hne : ∀ k, k < 20 → ∀ j, j < k → σ j ≠ σ k := by
    intro k hk j hj e
    obtain ⟨p, hp⟩ := hfresh k hk
    have h1 := (ht k hk).1 p
    rw [hv k p, hv k (σ k)] at h1
    have h2 : ¬ ∃ j, j < k ∧ σ j = p := by rintro ⟨j, hj, e⟩; exact hp j hj e
    rw [if_neg h2, if_pos ⟨j, hj, e⟩] at h1
    exact hf p (le_bot_iff.mp h1)
  have hself : ∀ k, k < 20 → v k (σ k) = f (σ k) := by
    intro k hk
    rw [hv k, if_neg]
    rintro ⟨j, hj, e⟩; exact hne k hk j hj e
  have hrest : ∀ k, k < 20 → ∀ p, (∀ j, j < k → σ j ≠ p) → p ≠ σ k → aboveTied f p (σ k) = false := by
    intro k hk p hp hpk
    have h1 := (ht k hk).1 p
    have h2 := (ht k hk).2 p
    rw [hself k hk, hv k p, if_neg (by rintro ⟨j, hj, e⟩; exact hp j hj e)] at h1 h2
    simp only [aboveTied, Bool.or_eq_false_iff, Bool.and_eq_false_iff, decide_eq_false_iff_not]
    refine ⟨not_lt.mpr h1, ?_⟩
    by_cases hlt : p < σ k
    · exact Or.inl (ne_of_lt (h2 hlt))
    · exact Or.inr hlt
  unfold nbr
  rw [sortedFrom_above]
  refine (aboveTied_total f).sortedFrom_eq_of_prefix (by decide) (fun j : Fin 20 => σ j) ?_ ?_ ?_ k
  · intro i j e
    by_contra hij
    rcases Nat.lt_or_gt_of_ne (fun h => hij (Fin.ext h)) with h | h
    · exact hne j j.2 i h e
    · exact hne i i.2 j h e.symm
  · intro i j hij
    exact hrest i i.2 (σ j) (fun j' hj' => hne j j.2 j' (lt_trans hj' hij)) (fun e => hne j j.2 i hij e.symm)
  · intro i p hp
    exact hrest i i.2 p (fun j hj => hp ⟨j, lt_trans hj i.2⟩) (fun e => hp i e.symm)

end Cert.Proof

end
-- ==== Proof.Spec.lean ====
module

public import proofs.«01_k».proof.Proof.Order
public import proofs.«01_k».proof.Proof.Consts
public import Mathlib.Algebra.BigOperators.Fin
public import Mathlib.Analysis.Real.Sqrt

/-! The mathematics that both programs compute, over the reals: distances, neighbours, the edge products, batch statistics. -/

@[expose] public section

noncomputable section

namespace Cert.Proof

/-- The negated squared distance of points `i` and `j` of cloud `b`. -/
def dist {C : ℕ} (X : Fin 8 → Fin 2048 → Fin C → ℝ) (b : Fin 8) (i j : Fin 2048) : ℝ :=
  2 * ∑ c, X b i c * X b j c - ∑ c, X b i c * X b i c - ∑ c, X b j c * X b j c

/-- The twenty neighbours of point `i` of cloud `b`. -/
def near {C : ℕ} (X : Fin 8 → Fin 2048 → Fin C → ℝ) (b : Fin 8) (i : Fin 2048) (k : Fin 20) : Fin 2048 :=
  nbr (fun j => (dist X b i j : EReal)) k

/-- The edge product: the neighbour's offset times `U`, plus the point itself times `W`. -/
def edge {C : ℕ} (X : Fin 8 → Fin 2048 → Fin C → ℝ) (N : Fin 8 → Fin 2048 → Fin 20 → Fin 2048) (U W : Fin C → Fin 64 → ℝ)
    (b : Fin 8) (i : Fin 2048) (k : Fin 20) (o : Fin 64) : ℝ :=
  ∑ c, (X b (N b i k) c - X b i c) * U c o + ∑ c, X b i c * W c o

end Cert.Proof

end

end
-- ==== Proof.Chain.lean ====
module

public import proofs.«01_k».proof.Proof.Spec
public import proofs.«01_k».proof.Proof.Gen.KernelIdeal.Skeleton
public import Idealize.ShloMosaic.Lib.Pointwise
public import Idealize.ShloMosaic.Lib.Pipeline.ValueKit

/-! Left-nested chains of an operation over twenty columns: the running maximum, minimum and sum of a block's edge products. -/

@[expose] public section

set_option maxRecDepth 16384

noncomputable section

namespace Cert.Proof

open Idealize.ShloMosaic Idealize.ShloMosaic.TcCoe Cert.KernelIdeal Cert.KernelIdeal.Gen

/-- `op (… (op (p 0) (p 1)) …) (p n)`. -/
def chain {α : Type} (op : α → α → α) (p : ℕ → α) : ℕ → α
  | 0 => p 0
  | n + 1 => op (chain op p n) (p (n + 1))

/-- A chain of arrays read at an index is the chain of the entries there. -/
theorem chain_at {s : Shape} (op : FVec Ideal s .f32 → FVec Ideal s .f32 → FVec Ideal s .f32) (op' : EReal → EReal → EReal) (i : s.Idx)
    (h : ∀ x y, op x y i = op' (x i) (y i)) (p : ℕ → FVec Ideal s .f32) (n : ℕ) : chain op p n i = chain op' (fun k => p k i) n := by
  induction n with
  | zero => rfl
  | succ n ih => exact (h _ _).trans (congrArg (fun z => op' z _) ih)

/-- A chain over reals, computed in the extended reals, is the real chain. -/
theorem chain_coe (op : EReal → EReal → EReal) (op' : ℝ → ℝ → ℝ) (h : ∀ x y : ℝ, op x y = (op' x y : ℝ)) (f : ℕ → ℝ) (n : ℕ) :
    chain op (fun k => (f k : EReal)) n = (chain op' f n : ℝ) := by
  induction n with
  | zero => rfl
  | succ n ih => exact (congrArg (fun z => op z _) ih).trans (h _ _)

/-- A chain reads only its terms up to its length. -/
theorem chain_congr {α : Type} (op : α → α → α) (p q : ℕ → α) (n : ℕ) (h : ∀ k ≤ n, p k = q k) : chain op p n = chain op q n := by
  induction n with
  | zero => exact h 0 le_rfl
  | succ n ih =>
    change op _ _ = op _ _
    rw [ih fun k hk => h k (by omega), h (n + 1) le_rfl]

/-- A chain of additions is the sum of its terms. -/
theorem chain_add (f : ℕ → ℝ) (n : ℕ) : chain (fun x y => x + y) f n = ∑ k : Fin (n + 1), f k := by
  induction n with
  | zero => simp [chain]
  | succ n ih => rw [Fin.sum_univ_castSucc]; simp only [chain, ih]; simp

/-- The running maximum is one of the values and at least each of them. -/
theorem chain_max (f : ℕ → ℝ) (n : ℕ) : (∃ k ≤ n, chain max f n = f k) ∧ ∀ k ≤ n, f k ≤ chain max f n := by
  induction n with
  | zero => exact ⟨⟨0, le_rfl, rfl⟩, fun k hk => by obtain rfl : k = 0 := by omega
                                                    exact le_rfl⟩
  | succ n ih =>
    obtain ⟨⟨k, hk, e⟩, hu⟩ := ih
    refine ⟨?_, fun j hj => ?_⟩
    · rcases le_total (chain max f n) (f (n + 1)) with h | h
      · exact ⟨n + 1, le_rfl, max_eq_right h⟩
      · exact ⟨k, by omega, (max_eq_left h).trans e⟩
    · rcases Nat.lt_or_ge n j with h | h
      · obtain rfl : j = n + 1 := by omega
        exact le_max_right _ _
      · exact (hu j h).trans (le_max_left _ _)

/-- The running minimum is one of the values and at most each of them. -/
theorem chain_min (f : ℕ → ℝ) (n : ℕ) : (∃ k ≤ n, chain min f n = f k) ∧ ∀ k ≤ n, chain min f n ≤ f k := by
  induction n with
  | zero => exact ⟨⟨0, le_rfl, rfl⟩, fun k hk => by obtain rfl : k = 0 := by omega
                                                    exact le_rfl⟩
  | succ n ih =>
    obtain ⟨⟨k, hk, e⟩, hu⟩ := ih
    refine ⟨?_, fun j hj => ?_⟩
    · rcases le_total (chain min f n) (f (n + 1)) with h | h
      · exact ⟨k, by omega, (min_eq_left h).trans e⟩
      · exact ⟨n + 1, le_rfl, min_eq_right h⟩
    · rcases Nat.lt_or_ge n j with h | h
      · obtain rfl : j = n + 1 := by omega
        exact min_le_right _ _
      · exact (min_le_left _ _).trans (hu j h)

/-- The largest of twenty numbers. -/
def maxOf (y : Fin 20 → ℝ) : ℝ := chain max (fun k => y ⟨k % 20, Nat.mod_lt _ (by decide)⟩) 19

/-- The smallest of twenty numbers. -/
def minOf (y : Fin 20 → ℝ) : ℝ := chain min (fun k => y ⟨k % 20, Nat.mod_lt _ (by decide)⟩) 19

/-- The greatest of twenty is one of them and no other exceeds it. -/
theorem maxOf_spec (y : Fin 20 → ℝ) : (∃ k, maxOf y = y k) ∧ ∀ k, y k ≤ maxOf y := by
  obtain ⟨⟨k, hk, e⟩, hu⟩ := chain_max (fun k => y ⟨k % 20, Nat.mod_lt _ (by decide)⟩) 19
  refine ⟨⟨_, e⟩, fun j => ?_⟩
  have := hu j.val (by omega)
  simp only [Nat.mod_eq_of_lt j.isLt] at this
  exact this

/-- The least of twenty is one of them and no other is below it. -/
theorem minOf_spec (y : Fin 20 → ℝ) : (∃ k, minOf y = y k) ∧ ∀ k, minOf y ≤ y k := by
  obtain ⟨⟨k, hk, e⟩, hu⟩ := chain_min (fun k => y ⟨k % 20, Nat.mod_lt _ (by decide)⟩) 19
  refine ⟨⟨_, e⟩, fun j => ?_⟩
  have := hu j.val (by omega)
  simp only [Nat.mod_eq_of_lt j.isLt] at this
  exact this

section
variable {s : Shape} (p : ℕ → FVec Ideal s .f32) (i : s.Idx) (y : Fin 20 → ℝ) (h : ∀ k : Fin 20, p k i = (y k : EReal))
include h

/-- A chain of twenty arrays whose entries at an index are real gives, there, the real chain of the entries. -/
theorem chain_lift (op : FVec Ideal s .f32 → FVec Ideal s .f32 → FVec Ideal s .f32) (op' : EReal → EReal → EReal) (op'' : ℝ → ℝ → ℝ)
    (h1 : ∀ x y, op x y i = op' (x i) (y i)) (h2 : ∀ x y : ℝ, op' x y = (op'' x y : ℝ)) :
    chain op p 19 i = (chain op'' (fun k => y ⟨k % 20, Nat.mod_lt _ (by decide)⟩) 19 : ℝ) := by
  rw [chain_at op op' i h1, ← chain_coe op' op'' h2]
  refine chain_congr _ _ _ _ fun k hk => ?_
  have := h ⟨k, by omega⟩
  simpa only [Nat.mod_eq_of_lt (show k < 20 by omega)] using this

/-- The chain of maxima at an index is the greatest of the twenty entries. -/
theorem chainMax_at : chain maximumf p 19 i = (maxOf y : EReal) :=
  chain_lift p i y h maximumf max max (fun _ _ => rfl) (fun _ _ => (EReal.coe_strictMono.monotone.map_max).symm)

/-- The chain of minima at an index is the least of the twenty entries. -/
theorem chainMin_at : chain minimumf p 19 i = (minOf y : EReal) :=
  chain_lift p i y h minimumf min min (fun _ _ => rfl) (fun _ _ => (EReal.coe_strictMono.monotone.map_min).symm)

/-- The chain of additions at an index is the sum of the twenty entries. -/
theorem chainAdd_at : chain addf p 19 i = ((∑ k, y k : ℝ) : EReal) := by
  rw [chain_lift p i y h addf (fun x y => x + y) (fun x y => x + y) (fun _ _ => rfl) (fun _ _ => (EReal.coe_add _ _).symm), chain_add]
  congr 1

end

end Cert.Proof

end

end
-- ==== Proof.Region2.lean ====
module

public import proofs.«01_k».proof.Proof.Chain
public import proofs.«01_k».proof.Proof.Gen.KernelIdeal.Frame

/-! The first finalize call: scale, shift and activation. -/

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- The activation: what is not positive is multiplied by the slope. -/
def leaky (z : EReal) : EReal := if 0 < z then z else (slope : EReal) * z

/-- Scale, shift and activation of a maximum `m` and a minimum `n`: a positive scale takes the maximum, any other the minimum. -/
def act (s h m n : EReal) : EReal := leaky ((if 0 < s then m else n) * s + h)

/-- The payload of the first finalize call at an entry: the normalised and rectified product. -/
theorem pay2_at (s h : Vec Ideal S1x64 .f32) (m n : Vec Ideal S1x2048x64 .f32) (i : Fin 2048) (o : Fin 64) :
    k2_pay1 s m n h (ix3 0 i o) = act (s (ix2 0 o)) (h (ix2 0 o)) (m (ix3 0 i o)) (n (ix3 0 i o)) := by
  pointwise [k2_pay1]
  rw [word_slope]
  rfl

/-- The first finalize call stores its one payload. -/
theorem out2_eq (m n : Vec Ideal S1x2048x64 .f32) (s h : Vec Ideal S1x64 .f32) : out2_4 m n s h = k2_pay1 s m n h := by
  frame_out

/-- The blocks that the windows of the first finalize call stand at, at each grid step. -/
theorem idx2 : ∀ t : Fin cfg2.N, win2_0.index t = ![t.val, 0, 0] ∧ win2_1.index t = ![t.val, 0, 0]
    ∧ win2_2.index t = ![0, 0] ∧ win2_3.index t = ![0, 0] ∧ win2_4.index t = ![t.val, 0, 0] :=
  (by decide +kernel : ∀ t : Fin grid2.N, _)

variable (V : (c : Dev nD) → (b : Ref sig .tc) → Buf (Elt Ideal) ((c : Thread nD τ).loc b))

/-- What the first finalize call reads through window 0: the greatest products. -/
theorem read2_0 (c : Dev nD) (t : Fin cfg2.N) (b : Fin 8) (i : Fin 2048) (o : Fin 64) (hb : b.val = t.val) :
    iblk2 V c 0 t (ix3 0 i o) = V c main_v10_0 (ix3 b i o) := by
  blk_ext [iblk2, idx2 t]

/-- What the first finalize call reads through window 1: the least products. -/
theorem read2_1 (c : Dev nD) (t : Fin cfg2.N) (b : Fin 8) (i : Fin 2048) (o : Fin 64) (hb : b.val = t.val) :
    iblk2 V c 1 t (ix3 0 i o) = V c main_v10_1 (ix3 b i o) := by
  blk_ext [iblk2, idx2 t]

/-- What the first finalize call reads through window 2: the scale. -/
theorem read2_2 (c : Dev nD) (t : Fin cfg2.N) (o : Fin 64) : iblk2 V c 2 t (ix2 0 o) = V c main_v27 (ix2 0 o) := by
  blk_ext [iblk2, idx2 t]

/-- What the first finalize call reads through window 3: the shift. -/
theorem read2_3 (c : Dev nD) (t : Fin cfg2.N) (o : Fin 64) : iblk2 V c 3 t (ix2 0 o) = V c main_v28 (ix2 0 o) := by
  blk_ext [iblk2, idx2 t]

/-- What the first finalize call stores at a grid step: the block of features. -/
theorem block2 (c : Dev nD) (t : Fin cfg2.N) (b : Fin 8) (i i' : Fin 2048) (o o' : Fin 64) (hb : b.val = t.val + (0 : Fin 1).val)
    (hi : i'.val = i.val) (ho : o'.val = o.val) :
    k2_pay1 (iblk2 V c 2 t) (iblk2 V c 0 t) (iblk2 V c 1 t) (iblk2 V c 3 t) (ix3 0 i o)
      = act (V c main_v27 (ix2 0 o')) (V c main_v28 (ix2 0 o')) (V c main_v10_0 (ix3 b i' o')) (V c main_v10_1 (ix3 b i' o')) := by
  obtain rfl : i' = i := Fin.ext hi
  obtain rfl : o' = o := Fin.ext ho
  rw [← read2_0 V c t b i' o' hb, ← read2_1 V c t b i' o' hb, ← read2_2 V c t, ← read2_3 V c t, pay2_at]

/-- After the first finalize call its array holds the activation of the scaled and shifted extremes. -/
theorem arr2 (c : Dev nD) : (dat2 V c).arrAt 4 cfg2.N = fun j : S8x2048x64.Idx =>
    act (V c main_v27 (ix2 0 (j 2))) (V c main_v28 (ix2 0 (j 2))) (V c main_v10_0 (ix3 (j 0) (j 1) (j 2))) (V c main_v10_1 (ix3 (j 0) (j 1) (j 2))) := by
  refine (dat2 V c).arrAt_eq_of_covers 4 _ (by decide +kernel) fun t _ y => ?_
  blk_simp
  rw [after2_4, out2_eq]
  generalize hj : ((cfg2.win 4).blk t).view.emb y = j
  have h0 : (j 0 : ℕ) = t.val + (y 0).val := by rw [← hj]; blk_simp [idx2 t]
  have h1 : (j 1 : ℕ) = (y 1).val := by rw [← hj]; blk_simp [idx2 t]
  have h2 : (j 2 : ℕ) = (y 2).val := by rw [← hj]; blk_simp [idx2 t]
  have hy : y = ix3 0 (y 1) (y 2) := by blk_ext
  have hy0 : (y 0).val = 0 := by rw [hy]; rfl
  rw [hy]
  exact block2 V c t (j 0) (y 1) (j 1) (y 2) (j 2) (h0.trans (congrArg _ hy0)) h1 h2

end Cert.Proof

end

end
-- ==== Proof.Norm.lean ====
module

public import proofs.«01_k».proof.Proof.Region2

/-! Batch normalisation over the reals: the two forms of the variance, and an activation that commutes with the extremes. -/

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- The mean square minus the squared mean is the mean squared deviation. -/
theorem var_split {ι : Type} [Fintype ι] (f : ι → ℝ) (n : ℝ) (hn : (Fintype.card ι : ℝ) = n) (h0 : n ≠ 0) :
    (∑ i, f i * f i) / n - (∑ i, f i) / n * ((∑ i, f i) / n)
      = (∑ i, (f i - (∑ j, f j) / n) * (f i - (∑ j, f j) / n)) / n := by
  have e : ∀ i, (f i - (∑ j, f j) / n) * (f i - (∑ j, f j) / n)
      = f i * f i - 2 * ((∑ j, f j) / n) * f i + (∑ j, f j) / n * ((∑ j, f j) / n) := fun i => by ring
  rw [Finset.sum_congr rfl fun i _ => e i, Finset.sum_add_distrib, Finset.sum_sub_distrib, ← Finset.mul_sum, Finset.sum_const, Finset.card_univ,
    nsmul_eq_mul, hn]
  field_simp
  ring

/-- The activation over the reals. -/
def lk (z : ℝ) : ℝ := if 0 < z then z else slope * z

/-- The rectifier at a real number is the real rectifier. -/
theorem leaky_coe (z : ℝ) : leaky z = (lk z : EReal) := by
  unfold leaky lk
  simp only [EReal.coe_pos]
  split <;> simp

/-- The real rectifier is monotone. -/
theorem lk_mono : Monotone lk := by
  intro a b h
  unfold lk
  have := slope_nonneg
  split <;> split <;> nlinarith

/-- A member that no other exceeds is the greatest. -/
theorem maxOf_eq (y : Fin 20 → ℝ) (v : ℝ) (h : ∃ k, v = y k) (hv : ∀ k, y k ≤ v) : maxOf y = v := by
  obtain ⟨k, rfl⟩ := h
  obtain ⟨l, hl⟩ := (maxOf_spec y).1
  exact le_antisymm (hl ▸ hv l) ((maxOf_spec y).2 k)

/-- A monotone function takes the greatest of twenty to the greatest of the images. -/
theorem maxOf_mono (φ : ℝ → ℝ) (h : Monotone φ) (y : Fin 20 → ℝ) : maxOf (fun k => φ (y k)) = φ (maxOf y) := by
  obtain ⟨l, hl⟩ := (maxOf_spec y).1
  exact maxOf_eq _ _ ⟨l, by rw [hl]⟩ fun k => h ((maxOf_spec y).2 k)

/-- An antitone function takes the least of twenty to the greatest of the images. -/
theorem maxOf_anti (φ : ℝ → ℝ) (h : Antitone φ) (y : Fin 20 → ℝ) : maxOf (fun k => φ (y k)) = φ (minOf y) := by
  obtain ⟨l, hl⟩ := (minOf_spec y).1
  exact maxOf_eq _ _ ⟨l, by rw [hl]⟩ fun k => h ((minOf_spec y).2 k)

/-- The mean and the variance over an index set of `n` values. -/
def mean {ι : Type} [Fintype ι] (n : ℝ) (f : ι → ℝ) : ℝ := (∑ i, f i) / n

/-- The variance: the mean of the centred squares. -/
def var {ι : Type} [Fintype ι] (n : ℝ) (f : ι → ℝ) : ℝ := (∑ i, (f i - mean n f) * (f i - mean n f)) / n

/-- A variance is not negative. -/
theorem var_nonneg {ι : Type} [Fintype ι] (n : ℝ) (hn : 0 < n) (f : ι → ℝ) : 0 ≤ var n f :=
  div_nonneg (Finset.sum_nonneg fun _ _ => mul_self_nonneg _) hn.le

/-- One value normalised: centred, divided by the deviation, scaled and shifted. -/
def norm (m v g h z : ℝ) : ℝ := (z - m) / Real.sqrt (v + eps) * g + h

/-- The scale from the sums `s` of the values and `q` of their squares. -/
def scaleOf (n s q g : EReal) : EReal := g * Ideal.rsqrt (Ideal.div q n - Ideal.div s n * Ideal.div s n + (eps : EReal))

/-- The shift from the same sums. -/
def shiftOf (n s q g h : EReal) : EReal := h - Ideal.div s n * scaleOf n s q g

section
variable {ι : Type} [Fintype ι] (n : ℝ) (f : ι → ℝ) (hn : (Fintype.card ι : ℝ) = n) (h0 : 0 < n)
include hn h0

/-- The kernel's scale, from real sums and squares, is the gain over the deviation. -/
theorem scaleOf_coe (g : ℝ) : scaleOf n ((∑ i, f i : ℝ) : EReal) ((∑ i, f i * f i : ℝ) : EReal) g
    = ((g * (Real.sqrt (var n f + eps))⁻¹ : ℝ) : EReal) := by
  have hv : 0 < var n f + eps := add_pos_of_nonneg_of_pos (var_nonneg n h0 f) eps_pos
  unfold scaleOf
  rw [Ideal.div_coe h0.ne', Ideal.div_coe h0.ne', ← EReal.coe_mul, ← EReal.coe_mul, ← EReal.coe_mul, ← EReal.coe_sub, ← EReal.coe_add]
  have e : (∑ i, f i * f i) * (1 / n) - (∑ i, f i) * (1 / n) * ((∑ i, f i) * (1 / n)) = var n f := by
    rw [mul_one_div, mul_one_div, var_split f n hn h0.ne']; rfl
  rw [e, Ideal.rsqrt_coe, if_neg (not_lt.mpr hv.le), if_neg hv.ne', EReal.coe_mul]

/-- The kernel's shift, from real sums and squares, is the offset less the scaled mean. -/
theorem shiftOf_coe (g : ℝ) (h : EReal) : shiftOf n ((∑ i, f i : ℝ) : EReal) ((∑ i, f i * f i : ℝ) : EReal) g h
    = h - ((mean n f * (g * (Real.sqrt (var n f + eps))⁻¹) : ℝ) : EReal) := by
  unfold shiftOf
  rw [scaleOf_coe n f hn h0, Ideal.div_coe h0.ne', ← EReal.coe_mul, ← EReal.coe_mul, mul_one_div]
  rfl

/-- The extremes scaled, shifted and activated are the largest activated normalised value. -/
theorem act_coe (g h : ℝ) (y : Fin 20 → ℝ) :
    act (scaleOf n ((∑ i, f i : ℝ) : EReal) ((∑ i, f i * f i : ℝ) : EReal) g) (shiftOf n ((∑ i, f i : ℝ) : EReal) ((∑ i, f i * f i : ℝ) : EReal) g h)
      (maxOf y : EReal) (minOf y : EReal) = (maxOf (fun k => lk (norm (mean n f) (var n f) g h (y k))) : EReal) := by
  unfold act
  rw [shiftOf_coe n f hn h0, scaleOf_coe n f hn h0]
  generalize hs : g * (Real.sqrt (var n f + eps))⁻¹ = s
  have e : ∀ z, norm (mean n f) (var n f) g h z = z * s + (h - mean n f * s) := fun z => by
    unfold norm; rw [← hs, div_eq_mul_inv]; ring
  simp only [e, EReal.coe_pos]
  by_cases h : 0 < s
  · rw [if_pos h, maxOf_mono (fun z => lk (z * s + _)) fun a b hab => lk_mono (by nlinarith)]
    rw [← EReal.coe_mul, ← EReal.coe_sub, ← EReal.coe_add, leaky_coe]
  · rw [if_neg h, maxOf_anti (fun z => lk (z * s + _)) fun a b hab => lk_mono (by nlinarith)]
    rw [← EReal.coe_mul, ← EReal.coe_sub, ← EReal.coe_add, leaky_coe]

/-- The same for one value, where the offset may be infinite. -/
theorem act_one (g : ℝ) (h : EReal) (y : ℝ) :
    act (scaleOf n ((∑ i, f i : ℝ) : EReal) ((∑ i, f i * f i : ℝ) : EReal) g) (shiftOf n ((∑ i, f i : ℝ) : EReal) ((∑ i, f i * f i : ℝ) : EReal) g h)
      (y : EReal) (y : EReal) = leaky (((y - mean n f) / Real.sqrt (var n f + eps) * g : ℝ) + h) := by
  unfold act
  rw [shiftOf_coe n f hn h0, scaleOf_coe n f hn h0, ite_self, ← EReal.coe_mul]
  congr 1
  rw [sub_eq_add_neg, add_comm h, ← add_assoc, ← EReal.coe_neg, ← EReal.coe_add]
  congr 2
  rw [div_eq_mul_inv]; ring

end

end Cert.Proof

end

end
-- ==== Proof.Region5.lean ====
module

public import proofs.«01_k».proof.Proof.Region2

/-! The fuse call: the second activation, its product with the last weights, and that product's statistics. -/

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- The fused product: the first layer's features times the upper weights, plus the second layer's times the lower ones. -/
def fuse (H A : Fin 8 → Fin 2048 → Fin 64 → ℝ) (Z : Fin 128 → Fin 256 → ℝ) (b : Fin 8) (i : Fin 2048) (o : Fin 256) : ℝ :=
  ∑ ch : Fin 64, H b i ch * Z ⟨ch.val, by omega⟩ o + ∑ ch : Fin 64, A b i ch * Z ⟨64 + ch.val, by omega⟩ o

/-- What a grid point adds to the statistics: the sums, the sums of squares, and rows of zeros. -/
def fuseRows (p : FVec Ideal S512x256 .f32) : FVec Ideal S8x256 .f32 :=
  concatenate S8x256 0 [⟨S1x256, shapeCast S1x256 (multiReduction .add [0] S256 p 0x00000000#32 reduces_S512x256_S256 (.inl rfl) rfl) shapeCasts_S256_S1x256⟩,
    ⟨S1x256, shapeCast S1x256 (multiReduction .add [0] S256 (mulf p p) 0x00000000#32 reduces_S512x256_S256 (.inl rfl) rfl) shapeCasts_S256_S1x256⟩,
    ⟨S6x256, broadcast S6x256 (Scalar.ofBits (F := Ideal) .f32 0x00000000#32)⟩] concatenates_S1x256_S1x256_S6x256_S8x256_d0

/-- The first statistics row of a tile of the fused product is the sum of its columns. -/
theorem fuseRows_0 (p : FVec Ideal S512x256 .f32) (y : Fin 512 → Fin 256 → ℝ) (h : ∀ r o, p (ix2 r o) = (y r o : EReal)) (o : Fin 256) :
    fuseRows p (ix2 0 o) = ((∑ r, y r o : ℝ) : EReal) := by
  pointwise [fuseRows]
  simp only [h, sum_coe]

/-- The second statistics row of a tile of the fused product is the sum of its columns' squares. -/
theorem fuseRows_1 (p : FVec Ideal S512x256 .f32) (y : Fin 512 → Fin 256 → ℝ) (h : ∀ r o, p (ix2 r o) = (y r o : EReal)) (o : Fin 256) :
    fuseRows p (ix2 1 o) = ((∑ r, y r o * y r o : ℝ) : EReal) := by
  pointwise [fuseRows]
  simp only [h, ← EReal.coe_mul, sum_coe]

/-- The fused product of a grid point's blocks, entry by entry. -/
theorem pay5_at (H A : Fin 8 → Fin 2048 → Fin 64 → ℝ) (Z : Fin 128 → Fin 256 → ℝ) (s h : Vec Ideal S1x64 .f32) (m n v : Vec Ideal S1x512x64 .f32)
    (w : Vec Ideal S128x256 .f32) (b : Fin 8) (i : Fin 2048) (r : Fin 512) (hv : ∀ ch, v (ix3 0 r ch) = (H b i ch : EReal))
    (ha : ∀ ch, act (s (ix2 0 ch)) (h (ix2 0 ch)) (m (ix3 0 r ch)) (n (ix3 0 r ch)) = (A b i ch : EReal))
    (hw : ∀ ch o, w (ix2 ch o) = (Z ch o : EReal)) (o : Fin 256) : k5_pay3 s m n h v w (ix2 r o) = (fuse H A Z b i o : EReal) := by
  unfold act leaky at ha
  pointwise [k5_pay3]
  simp only [word_slope, ha, hv, hw, ← EReal.coe_mul, sum_coe, ← EReal.coe_add]
  rfl

section
variable (c : Dev nD) (i : grid5.Coords) (a2 : Memref sig .tc .vmem S1x512x64 .f32) (b2 : a2.IsWhole) (a3 : Memref sig .tc .vmem S1x512x64 .f32) (b3 : a3.IsWhole)
  (a4 : Memref sig .tc .vmem S1x512x64 .f32) (b4 : a4.IsWhole) (a5 : Memref sig .tc .vmem S1x64 .f32) (b5 : a5.IsWhole)
  (a6 : Memref sig .tc .vmem S1x64 .f32) (b6 : a6.IsWhole) (a7 : Memref sig .tc .vmem S128x256 .f32) (b7 : a7.IsWhole)
  (a8 : Memref sig .tc .vmem S1x512x256 .f32) (b8 : a8.IsWhole) (a9 : Memref sig .tc .vmem S8x256 .f32) (b9 : a9.IsWhole)
  (x0 x1 x2 : Vec Ideal S1x512x64 .f32) (x3 x4 : Vec Ideal S1x64 .f32) (x5 : Vec Ideal S128x256 .f32) (d : Vec Ideal S8x256 .f32)

/-- The fused product that the fused call stores at the first grid step. -/
theorem out5_A_6_eq (h) : out5_A_6 (F := Ideal) c i a2 b2 a3 b3 a4 b4 a5 b5 a6 b6 a7 b7 a8 b8 a9 b9 h x0 x1 x2 x3 x4 x5
    = k5_pay4 x3 x1 x2 x4 x0 x5 := by
  frame_out

/-- The fused product that the fused call stores at a later grid step. -/
theorem out5_B_6_eq (h) : out5_B_6 (F := Ideal) c i a2 b2 a3 b3 a4 b4 a5 b5 a6 b6 a7 b7 a8 b8 a9 b9 h x0 x1 x2 x3 x4 x5 d
    = k5_pay4 x3 x1 x2 x4 x0 x5 := by
  frame_out

/-- The statistics that the fused call stores at the first grid step. -/
theorem out5_A_7_eq (h) : out5_A_7 (F := Ideal) c i a2 b2 a3 b3 a4 b4 a5 b5 a6 b6 a7 b7 a8 b8 a9 b9 h x0 x1 x2 x3 x4 x5
    = addf (shapeCast S8x256 (k5_pay1 (F := Ideal)) shapeCasts_S8x256_S8x256) (fuseRows (k5_pay3 x3 x1 x2 x4 x0 x5)) := by
  frame_out
  rfl

/-- The statistics that the fused call stores at a later grid step. -/
theorem out5_B_7_eq (h) : out5_B_7 (F := Ideal) c i a2 b2 a3 b3 a4 b4 a5 b5 a6 b6 a7 b7 a8 b8 a9 b9 h x0 x1 x2 x3 x4 x5 d
    = addf (shapeCast S8x256 d shapeCasts_S8x256_S8x256) (fuseRows (k5_pay3 x3 x1 x2 x4 x0 x5)) := by
  frame_out
  rfl

end

/-- The blocks that the windows of the fused call stand at, at each grid step. -/
theorem idx5 : ∀ t : Fin cfg5.N, win5_0.index t = ![t.val / 4, t.val % 4, 0] ∧ win5_1.index t = ![t.val / 4, t.val % 4, 0]
    ∧ win5_2.index t = ![t.val / 4, t.val % 4, 0] ∧ win5_3.index t = ![0, 0] ∧ win5_4.index t = ![0, 0] ∧ win5_5.index t = ![0, 0]
    ∧ win5_6.index t = ![t.val / 4, t.val % 4, 0] ∧ win5_7.index t = ![0, 0] :=
  (by decide +kernel : ∀ t : Fin grid5.N, _)

variable (V : (c : Dev nD) → (b : Ref sig .tc) → Buf (Elt Ideal) ((c : Thread nD τ).loc b))

/-- What the fused call reads through window 0: the first layer's features. -/
theorem read5_0 (c : Dev nD) (t : Fin cfg5.N) (b : Fin 8) (i : Fin 2048) (r : Fin 512) (ch : Fin 64) (hb : b.val = t.val / 4)
    (hi : i.val = t.val % 4 * 512 + r.val) : iblk5 V c 0 t (ix3 0 r ch) = V c main_v29 (ix3 b i ch) := by
  blk_ext [iblk5, idx5 t]

/-- What the fused call reads through window 1: the greatest products. -/
theorem read5_1 (c : Dev nD) (t : Fin cfg5.N) (b : Fin 8) (i : Fin 2048) (r : Fin 512) (ch : Fin 64) (hb : b.val = t.val / 4)
    (hi : i.val = t.val % 4 * 512 + r.val) : iblk5 V c 1 t (ix3 0 r ch) = V c main_v33_0 (ix3 b i ch) := by
  blk_ext [iblk5, idx5 t]

/-- What the fused call reads through window 2: the least products. -/
theorem read5_2 (c : Dev nD) (t : Fin cfg5.N) (b : Fin 8) (i : Fin 2048) (r : Fin 512) (ch : Fin 64) (hb : b.val = t.val / 4)
    (hi : i.val = t.val % 4 * 512 + r.val) : iblk5 V c 2 t (ix3 0 r ch) = V c main_v33_1 (ix3 b i ch) := by
  blk_ext [iblk5, idx5 t]

/-- What the fused call reads through window 3: the scale. -/
theorem read5_3 (c : Dev nD) (t : Fin cfg5.N) (o : Fin 64) : iblk5 V c 3 t (ix2 0 o) = V c main_v50 (ix2 0 o) := by
  blk_ext [iblk5, idx5 t]

/-- What the fused call reads through window 4: the shift. -/
theorem read5_4 (c : Dev nD) (t : Fin cfg5.N) (o : Fin 64) : iblk5 V c 4 t (ix2 0 o) = V c main_v51 (ix2 0 o) := by
  blk_ext [iblk5, idx5 t]

/-- What the fused call reads through window 5: the weights. -/
theorem read5_5 (c : Dev nD) (t : Fin cfg5.N) (a : Fin 128) (o : Fin 256) : iblk5 V c 5 t (ix2 a o) = V c main_v52 (ix2 a o) := by
  blk_ext [iblk5, idx5 t]

variable (c : Dev nD) (H A : Fin 8 → Fin 2048 → Fin 64 → ℝ) (Z : Fin 128 → Fin 256 → ℝ)
  (hH : ∀ b i ch, V c main_v29 (ix3 b i ch) = (H b i ch : EReal))
  (hA : ∀ b i ch, act (V c main_v50 (ix2 0 ch)) (V c main_v51 (ix2 0 ch)) (V c main_v33_0 (ix3 b i ch)) (V c main_v33_1 (ix3 b i ch)) = (A b i ch : EReal))
  (hZ : ∀ ch o, V c main_v52 (ix2 ch o) = (Z ch o : EReal))
include hH hA hZ

/-- The fused product of a tile, at a row and a column, is the network's. -/
theorem fused_at (t : Fin cfg5.N) (b : Fin 8) (i : Fin 2048) (r : Fin 512) (hb : b.val = t.val / 4) (hi : i.val = t.val % 4 * 512 + r.val) (o : Fin 256) :
    k5_pay3 (iblk5 V c 3 t) (iblk5 V c 1 t) (iblk5 V c 2 t) (iblk5 V c 4 t) (iblk5 V c 0 t) (iblk5 V c 5 t) (ix2 r o) = (fuse H A Z b i o : EReal) :=
  pay5_at H A Z _ _ _ _ _ _ b i r (fun ch => (read5_0 V c t b i r ch hb hi).trans (hH b i ch))
    (fun ch => by rw [read5_3, read5_4, read5_1 V c t b i r ch hb hi, read5_2 V c t b i r ch hb hi, hA])
    (fun a o => (read5_5 V c t a o).trans (hZ a o)) o

/-- What the fused call stores at a grid step: the block of fused product. -/
theorem block5_6 (t : Fin cfg5.N) (b : Fin 8) (i : Fin 2048) (r : Fin 512) (o o' : Fin 256)
    (hb : b.val = t.val / 4 + (0 : Fin 1).val) (hi : i.val = t.val % 4 * 512 + r.val) (ho : o'.val = o.val) :
    k5_pay4 (iblk5 V c 3 t) (iblk5 V c 1 t) (iblk5 V c 2 t) (iblk5 V c 4 t) (iblk5 V c 0 t) (iblk5 V c 5 t) (ix3 0 r o) = (fuse H A Z b i o' : EReal) := by
  obtain rfl : o' = o := Fin.ext ho
  rw [← fused_at V c H A Z hH hA hZ t b i r hb hi o']
  unfold k5_pay4
  generalize k5_pay3 (F := Ideal) _ _ _ _ _ _ = u
  pointwise

/-- The fused products after the fuse call. -/
theorem arr5_6 : (dat5 V c).arrAt 6 cfg5.N = fun j : S8x2048x256.Idx => (fuse H A Z (j 0) (j 1) (j 2) : EReal) := by
  refine (dat5 V c).arrAt_eq_of_covers 6 _ (by decide +kernel) fun t _ y => ?_
  blk_simp
  generalize hj : ((cfg5.win 6).blk t).view.emb y = j
  have h0 : (j 0 : ℕ) = t.val / 4 + (y 0).val := by rw [← hj]; blk_simp [idx5 t]
  have h1 : (j 1 : ℕ) = t.val % 4 * 512 + (y 1).val := by rw [← hj]; blk_simp [idx5 t]
  have h2 : (j 2 : ℕ) = (y 2).val := by rw [← hj]; blk_simp [idx5 t]
  have hy : y = ix3 0 (y 1) (y 2) := by blk_ext
  have hy0 : (y 0).val = 0 := by rw [hy]; rfl
  have e : (outsAt5 V c t.val t.isLt).1 = k5_pay4 (iblk5 V c 3 t) (iblk5 V c 1 t) (iblk5 V c 2 t) (iblk5 V c 4 t) (iblk5 V c 0 t) (iblk5 V c 5 t) := by
    by_cases h : t.val % 32 = 0
    · rw [outsAt5_A V c t h, out5_A_6_eq]
    · rw [outsAt5_B V c t h, out5_B_6_eq]
  rw [after5_6, e, hy]
  exact block5_6 V c H A Z hH hA hZ t (j 0) (j 1) (y 1) (y 2) (j 2) (h0.trans (congrArg _ hy0)) h1 h2

omit hH hA hZ in
/-- The statistics after the fuse call, as a sum over the grid points. -/
theorem arr5_7 : (dat5 V c).arrAt 7 cfg5.N = fun j : S8x256.Idx =>
    ∑ t : Fin cfg5.N, fuseRows (k5_pay3 (iblk5 V c 3 t) (iblk5 V c 1 t) (iblk5 V c 2 t) (iblk5 V c 4 t) (iblk5 V c 0 t) (iblk5 V c 5 t)) j := by
  refine (dat5 V c).arrAt_eq_of_covers 7 _ (by decide +kernel) fun t hf y => ?_
  blk_simp
  generalize hj : ((cfg5.win 7).blk t).view.emb y = j
  have hjy : j = y := by rw [← hj]; blk_ext [idx5 t]
  have hN : cfg5.N = 32 := rfl
  rw [hjy, after5_7, Pipeline.eq_sum_fin_of_reset_step_apply_last (fun n h => (outsAt5 V c n h).2) 32 (fun _ => (0 : EReal))
    (fun t j => fuseRows (k5_pay3 (iblk5 V c 3 t) (iblk5 V c 1 t) (iblk5 V c 2 t) (iblk5 V c 4 t) (iblk5 V c 0 t) (iblk5 V c 5 t)) j)
    (fun t h j => by rw [outsAt5_A V c t h, out5_A_7_eq]; pointwise [k5_pay1])
    (fun t h j => by rw [outsAt5_B V c t h, out5_B_7_eq]; pointwise)
    (le_of_eq hN) t (by have := (flush5_7 t).mp hf; have := t.isLt; omega) y, zero_add]

/-- The fused call's statistics over all grid steps: the sum of the products of a channel. -/
theorem stats5_0 (o : Fin 256) : (∑ t : Fin cfg5.N, fuseRows (k5_pay3 (iblk5 V c 3 t) (iblk5 V c 1 t) (iblk5 V c 2 t) (iblk5 V c 4 t) (iblk5 V c 0 t)
    (iblk5 V c 5 t)) (ix2 0 o) : EReal) = ((∑ b, ∑ i, fuse H A Z b i o : ℝ) : EReal) := by
  have hN : cfg5.N = 32 := rfl
  have e : ∀ t : Fin cfg5.N, fuseRows (k5_pay3 (iblk5 V c 3 t) (iblk5 V c 1 t) (iblk5 V c 2 t) (iblk5 V c 4 t) (iblk5 V c 0 t) (iblk5 V c 5 t)) (ix2 0 o)
      = ((∑ r : Fin 512, fuse H A Z ⟨t.val / 4, by omega⟩ ⟨t.val % 4 * 512 + r.val, by omega⟩ o : ℝ) : EReal) := fun t =>
    fuseRows_0 _ (fun r o => fuse H A Z ⟨t.val / 4, by omega⟩ ⟨t.val % 4 * 512 + r.val, by omega⟩ o)
      (fun r o => fused_at V c H A Z hH hA hZ t _ _ r rfl rfl o) o
  rw [Finset.sum_congr rfl fun t _ => e t, sum_coe]
  exact congrArg _ (Fin.sum_points_lanes_congr 4 fun t r ha hl => rfl)

/-- The fused call's statistics over all grid steps: the sum of the squares of a channel. -/
theorem stats5_1 (o : Fin 256) : (∑ t : Fin cfg5.N, fuseRows (k5_pay3 (iblk5 V c 3 t) (iblk5 V c 1 t) (iblk5 V c 2 t) (iblk5 V c 4 t) (iblk5 V c 0 t)
    (iblk5 V c 5 t)) (ix2 1 o) : EReal) = ((∑ b, ∑ i, fuse H A Z b i o * fuse H A Z b i o : ℝ) : EReal) := by
  have hN : cfg5.N = 32 := rfl
  have e : ∀ t : Fin cfg5.N, fuseRows (k5_pay3 (iblk5 V c 3 t) (iblk5 V c 1 t) (iblk5 V c 2 t) (iblk5 V c 4 t) (iblk5 V c 0 t) (iblk5 V c 5 t)) (ix2 1 o)
      = ((∑ r : Fin 512, fuse H A Z ⟨t.val / 4, by omega⟩ ⟨t.val % 4 * 512 + r.val, by omega⟩ o
          * fuse H A Z ⟨t.val / 4, by omega⟩ ⟨t.val % 4 * 512 + r.val, by omega⟩ o : ℝ) : EReal) := fun t =>
    fuseRows_1 _ (fun r o => fuse H A Z ⟨t.val / 4, by omega⟩ ⟨t.val % 4 * 512 + r.val, by omega⟩ o)
      (fun r o => fused_at V c H A Z hH hA hZ t _ _ r rfl rfl o) o
  rw [Finset.sum_congr rfl fun t _ => e t, sum_coe]
  exact congrArg _ (Fin.sum_points_lanes_congr 4 fun t r ha hl => rfl)

end Cert.Proof

end

end
-- ==== Proof.Model.lean ====
module

public import proofs.«01_k».proof.Proof.Norm
public import proofs.«01_k».proof.Proof.Region5

/-! The mathematics of the whole network: two edge layers, the fused product, and the last normalisation. -/

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- The edge products of the first layer. -/
def conv0 (x : Fin 8 → Fin 2048 → Fin 3 → ℝ) (w : Fin 64 → Fin 6 → ℝ) : Fin 8 → Fin 2048 → Fin 20 → Fin 64 → ℝ :=
  edge x (near x) (fun ch o => w o ⟨ch.val, by omega⟩) (fun ch o => w o ⟨3 + ch.val, by omega⟩)

/-- The edge products of the second layer. -/
def conv1 (x : Fin 8 → Fin 2048 → Fin 64 → ℝ) (w : Fin 64 → Fin 128 → ℝ) : Fin 8 → Fin 2048 → Fin 20 → Fin 64 → ℝ :=
  edge x (near x) (fun ch o => w o ⟨ch.val, by omega⟩) (fun ch o => w o ⟨64 + ch.val, by omega⟩)

/-- One channel of the edge products, over all edges. -/
def channel (y : Fin 8 → Fin 2048 → Fin 20 → Fin 64 → ℝ) (o : Fin 64) (p : Fin 8 × Fin 2048 × Fin 20) : ℝ := y p.1 p.2.1 p.2.2 o

/-- A layer's features: the largest activated normalised edge product. -/
def layer (y : Fin 8 → Fin 2048 → Fin 20 → Fin 64 → ℝ) (g h : Fin 64 → ℝ) (b : Fin 8) (i : Fin 2048) (o : Fin 64) : ℝ :=
  maxOf fun k => lk (norm (mean 327680 (channel y o)) (var 327680 (channel y o)) (g o) (h o) (y b i k o))

/-- One channel of the fused products, over all points. -/
def column (z : Fin 8 → Fin 2048 → Fin 256 → ℝ) (o : Fin 256) (p : Fin 8 × Fin 2048) : ℝ := z p.1 p.2 o

/-- The last normalisation and activation; its offset may be infinite. -/
def final (z : Fin 8 → Fin 2048 → Fin 256 → ℝ) (g : Fin 256 → ℝ) (h : Fin 256 → EReal) (b : Fin 8) (i : Fin 2048) (o : Fin 256) : EReal :=
  leaky (((z b i o - mean 16384 (column z o)) / Real.sqrt (var 16384 (column z o) + eps) * g o : ℝ) + h o)

section
variable (x : Fin 8 → Fin 2048 → Fin 3 → ℝ) (w0 : Fin 64 → Fin 6 → ℝ) (g0 b0 : Fin 64 → ℝ) (w1 : Fin 64 → Fin 128 → ℝ) (g1 b1 : Fin 64 → ℝ)
  (wf : Fin 256 → Fin 128 → ℝ) (gf : Fin 256 → ℝ) (bf : Fin 256 → EReal)

/-- The first layer's features. -/
def feat0 := layer (conv0 x w0) g0 b0

/-- The second layer's features. -/
def feat1 := layer (conv1 (feat0 x w0 g0 b0) w1) g1 b1

/-- The network's result. -/
def model := final (fuse (feat0 x w0 g0 b0) (feat1 x w0 g0 b0 w1 g1 b1) fun a o => wf o a) gf bf

end

/-- The number of edges of a layer. -/
theorem card_edges : (Fintype.card (Fin 8 × Fin 2048 × Fin 20) : ℝ) = 327680 := by simp

/-- The number of points. -/
theorem card_points : (Fintype.card (Fin 8 × Fin 2048) : ℝ) = 16384 := by simp

end Cert.Proof

end

end
-- ==== Proof.Host.lean ====
module

public import proofs.«01_k».proof.Proof.Norm
public import Idealize.ShloMosaic.Lib.StableHlo.ReadAt

/-! The kernel's host stretches: padding, transposes, and the scale and shift of each normalisation. -/

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- Three channels padded by zeros to eight. -/
def pad (x : Fin 8 → Fin 2048 → Fin 3 → ℝ) (b : Fin 8) (i : Fin 2048) (ch : Fin 8) : ℝ := if h : ch.val < 3 then x b i ⟨ch.val, h⟩ else 0

/-- The weights of three channels, transposed and padded by zeros to eight. -/
def padW (w : Fin 64 → Fin 3 → ℝ) (ch : Fin 8) (o : Fin 64) : ℝ := if h : ch.val < 3 then w o ⟨ch.val, h⟩ else 0

/-- Padding the coordinates with zeros does not change a distance. -/
theorem dist_pad (x : Fin 8 → Fin 2048 → Fin 3 → ℝ) (b i j) : dist (pad x) b i j = dist x b i j := by
  simp [dist, pad, Fin.sum_univ_succ]

/-- Padding the coordinates with zeros does not change a neighbour. -/
theorem near_pad (x : Fin 8 → Fin 2048 → Fin 3 → ℝ) (b i k) : near (pad x) b i k = near x b i k := by
  unfold near
  simp only [dist_pad]

/-- Padding coordinates and weights with zeros does not change an edge product. -/
theorem edge_pad (x : Fin 8 → Fin 2048 → Fin 3 → ℝ) (N) (u w : Fin 64 → Fin 3 → ℝ) (b i k o) :
    edge (pad x) N (padW u) (padW w) b i k o = edge x N (fun ch o => u o ch) (fun ch o => w o ch) b i k o := by
  simp [edge, pad, padW, Fin.sum_univ_succ]

variable (W : Valuation τ sig (Elt Ideal))

/-- The first host segment leaves the points, padded to eight channels. -/
theorem host0_v1 (x : Fin 8 → Fin 2048 → Fin 3 → ℝ) (hx : ∀ b i ch, W (Proc.devRef .tc main_arg0) (ix3 b i ch) = (x b i ch : EReal)) (b i) (ch : Fin 8) :
    StableHlo.after hostOps0 W (Proc.devRef .tc main_v1) (ix3 b i ch) = (pad x b i ch : EReal) := by
  unfold pad
  after_reads_at
  by_cases h : ch.val < 3 <;> simp [h, hx]

/-- The first host segment leaves the padded points transposed. -/
theorem host0_v2 (x : Fin 8 → Fin 2048 → Fin 3 → ℝ) (hx : ∀ b i ch, W (Proc.devRef .tc main_arg0) (ix3 b i ch) = (x b i ch : EReal)) (b i) (ch : Fin 8) :
    StableHlo.after hostOps0 W (Proc.devRef .tc main_v2) (ix3 b ch i) = (pad x b i ch : EReal) := by
  unfold pad
  after_reads_at
  after_reads_at
  by_cases h : ch.val < 3 <;> simp [h, hx]

/-- The upper half of the first weight matrix, transposed and padded, which meets the difference to the neighbour. -/
theorem host0_v8 (w : Fin 64 → Fin 6 → ℝ) (hw : ∀ o ch, W (Proc.devRef .tc main_arg1) (ix2 o ch) = (w o ch : EReal)) (ch : Fin 8) (o : Fin 64) :
    StableHlo.after hostOps0 W (Proc.devRef .tc main_v8) (ix2 (⟨ch.val, by omega⟩ : Fin 16) o) = (padW (fun o ch => w o ⟨ch.val, by omega⟩) ch o : EReal) := by
  unfold padW
  after_reads_at
  after_reads_at
  by_cases h : ch.val < 3
  · rw [dif_pos h, dif_pos h, ← hw]
    try after_reads_at
  · have : ch.val - 3 < 5 := by omega
    simp only [h, this, dif_pos, dif_neg, not_false_eq_true]
    try after_reads_at
    simp

/-- The lower half of the first weight matrix, transposed and padded, which meets the point itself. -/
theorem host0_v8' (w : Fin 64 → Fin 6 → ℝ) (hw : ∀ o ch, W (Proc.devRef .tc main_arg1) (ix2 o ch) = (w o ch : EReal)) (ch : Fin 8) (o : Fin 64) :
    StableHlo.after hostOps0 W (Proc.devRef .tc main_v8) (ix2 (⟨8 + ch.val, by omega⟩ : Fin 16) o) = (padW (fun o ch => w o ⟨3 + ch.val, by omega⟩) ch o : EReal) := by
  unfold padW
  after_reads_at
  after_reads_at
  have h1 : ¬8 + ch.val < 3 := by omega
  have h2 : ¬8 + ch.val - 3 < 5 := by omega
  by_cases h : ch.val < 3
  · have h3 : 8 + ch.val - 3 - 5 < 3 := by omega
    simp only [h, h1, h2, h3, dif_pos, dif_neg, not_false_eq_true]
    try after_reads_at
    rw [← hw]
    congr 2
    exact Fin.ext (by dsimp only; omega)
  · have h3 : ¬8 + ch.val - 3 - 5 < 3 := by omega
    simp only [h, h1, h2, h3, dif_neg, not_false_eq_true]
    try after_reads_at
    simp

/-- The scale of the first layer, from the sums and squares the edge call left. -/
theorem host2_v27 (o : Fin 64) : StableHlo.after hostOps2 W (Proc.devRef .tc main_v27) (ix2 0 o)
    = scaleOf ((327680 : ℝ) : EReal) (W (Proc.devRef .tc main_v10_2) (ix2 0 o)) (W (Proc.devRef .tc main_v10_2) (ix2 1 o)) (W (Proc.devRef .tc main_arg2) (ix1 o)) := by
  after_reads_at
  rw [word_edges, word_eps]
  rfl

/-- The shift of the first layer, from the sums and squares the edge call left. -/
theorem host2_v28 (o : Fin 64) : StableHlo.after hostOps2 W (Proc.devRef .tc main_v28) (ix2 0 o)
    = shiftOf ((327680 : ℝ) : EReal) (W (Proc.devRef .tc main_v10_2) (ix2 0 o)) (W (Proc.devRef .tc main_v10_2) (ix2 1 o)) (W (Proc.devRef .tc main_arg2) (ix1 o))
      (W (Proc.devRef .tc main_arg3) (ix1 o)) := by
  after_reads_at
  rw [word_edges, word_eps]
  rfl

/-- The first layer's features transposed. -/
theorem host3_v30 (b i) (ch : Fin 64) : StableHlo.after hostOps3 W (Proc.devRef .tc main_v30) (ix3 b ch i) = W (Proc.devRef .tc main_v29) (ix3 b i ch) := by
  after_reads_at

/-- The second layer's weights transposed. -/
theorem host3_v31 (a : Fin 128) (o : Fin 64) : StableHlo.after hostOps3 W (Proc.devRef .tc main_v31) (ix2 a o) = W (Proc.devRef .tc main_arg4) (ix2 o a) := by
  after_reads_at

/-- The scale of the second layer, from the sums and squares the edge call left. -/
theorem host5_v50 (o : Fin 64) : StableHlo.after hostOps5 W (Proc.devRef .tc main_v50) (ix2 0 o)
    = scaleOf ((327680 : ℝ) : EReal) (W (Proc.devRef .tc main_v33_2) (ix2 0 o)) (W (Proc.devRef .tc main_v33_2) (ix2 1 o)) (W (Proc.devRef .tc main_arg5) (ix1 o)) := by
  after_reads_at
  rw [word_edges, word_eps]
  rfl

/-- The shift of the second layer, from the sums and squares the edge call left. -/
theorem host5_v51 (o : Fin 64) : StableHlo.after hostOps5 W (Proc.devRef .tc main_v51) (ix2 0 o)
    = shiftOf ((327680 : ℝ) : EReal) (W (Proc.devRef .tc main_v33_2) (ix2 0 o)) (W (Proc.devRef .tc main_v33_2) (ix2 1 o)) (W (Proc.devRef .tc main_arg5) (ix1 o))
      (W (Proc.devRef .tc main_arg6) (ix1 o)) := by
  after_reads_at
  rw [word_edges, word_eps]
  rfl

/-- The fused product's weights transposed. -/
theorem host5_v52 (a : Fin 128) (o : Fin 256) : StableHlo.after hostOps5 W (Proc.devRef .tc main_v52) (ix2 a o) = W (Proc.devRef .tc main_arg7) (ix2 o a) := by
  after_reads_at

/-- The scale of the last layer, from the sums and squares the fused call left. -/
theorem host6_v70 (o : Fin 256) : StableHlo.after hostOps6 W (Proc.devRef .tc main_v70) (ix2 0 o)
    = scaleOf ((16384 : ℝ) : EReal) (W (Proc.devRef .tc main_v53_1) (ix2 0 o)) (W (Proc.devRef .tc main_v53_1) (ix2 1 o)) (W (Proc.devRef .tc main_arg8) (ix1 o)) := by
  after_reads_at
  rw [word_points, word_eps]
  rfl

/-- The shift of the last layer, from the sums and squares the fused call left. -/
theorem host6_v71 (o : Fin 256) : StableHlo.after hostOps6 W (Proc.devRef .tc main_v71) (ix2 0 o)
    = shiftOf ((16384 : ℝ) : EReal) (W (Proc.devRef .tc main_v53_1) (ix2 0 o)) (W (Proc.devRef .tc main_v53_1) (ix2 1 o)) (W (Proc.devRef .tc main_arg8) (ix1 o))
      (W (Proc.devRef .tc main_arg9) (ix1 o)) := by
  after_reads_at
  rw [word_points, word_eps]
  rfl

end Cert.Proof

end

end
-- ==== Proof.Knn.lean ====
module

public import proofs.«01_k».proof.Proof.Order
public import proofs.«01_k».proof.Proof.Consts
public import proofs.«01_k».proof.Proof.Gen.KernelIdeal.Skeleton
public import Idealize.ShloMosaic.Lib.Pointwise
public import Idealize.ShloMosaic.Lib.Pipeline.ValueKit

/-! The neighbour kernel's body on a block: the matrix of distances, then twenty rounds. -/

@[expose] public section

set_option maxRecDepth 16384

noncomputable section

namespace Cert.Proof

open Idealize.ShloMosaic Idealize.ShloMosaic.TcCoe Cert.KernelIdeal Cert.KernelIdeal.Gen

/-- A fold of signed minima that starts at the greatest word and meets `w p`, below or at every other word, is `w p`. -/
theorem fold_minsi_eq {n : ℕ} (w : Fin n → BitVec 32) (p : Fin n) (h : ∀ q, (w p).toInt ≤ (w q).toInt) :
    Finset.fold IntOp.minsi (2147483647#32) w Finset.univ = w p := by
  classical
  have hinit : (w p).toInt ≤ (2147483647#32 : BitVec 32).toInt := by
    have : (2147483647#32 : BitVec 32).toInt = 2147483647 := by decide
    rw [this]; have := BitVec.toInt_lt (x := w p); simp at this; omega
  have hle : ∀ s : Finset (Fin n), (w p).toInt ≤ (Finset.fold IntOp.minsi (2147483647#32) w s).toInt := by
    intro s
    induction s using Finset.induction with
    | empty => simpa using hinit
    | insert a s ha ih =>
      rw [Finset.fold_insert ha]; unfold IntOp.minsi; split
      · exact h a
      · exact ih
  rw [← Finset.insert_erase (Finset.mem_univ p), Finset.fold_insert (Finset.notMem_erase p _)]
  have h1 := hle (Finset.univ.erase p)
  unfold IntOp.minsi
  split
  · rfl
  · rename_i hn
    have hn' := hn
    rw [BitVec.slt_iff_toInt_lt] at hn'
    exact BitVec.eq_of_toInt_eq (le_antisymm (not_lt.mp hn') h1)

/-- A fold of maxima from minus infinity is the greatest entry. -/
theorem fold_max_eq {n : ℕ} (f : Fin n → EReal) (p : Fin n) (h : ∀ q, f q ≤ f p) : Finset.fold max ⊥ f Finset.univ = f p := by
  refine le_antisymm ?_ ?_
  · rw [Finset.fold_max_le]; exact ⟨bot_le, fun q _ => h q⟩
  · rw [Finset.le_fold_max]; exact Or.inr ⟨p, Finset.mem_univ _, le_rfl⟩

/-- Every row has a top. -/
theorem exists_isTop (f : Fin 2048 → EReal) : ∃ p, IsTop f p := by
  classical
  obtain ⟨m, -, hm⟩ := Finset.exists_max_image Finset.univ f ⟨0, Finset.mem_univ _⟩
  obtain ⟨p, hp, hp'⟩ := Finset.exists_min_image (Finset.univ.filter fun q => f q = f m) id ⟨m, by simp⟩
  simp only [Finset.mem_filter, Finset.mem_univ, true_and, id] at hp hp'
  refine ⟨p, fun q => hp ▸ hm q (Finset.mem_univ _), fun q hq => lt_of_le_of_ne (hp ▸ hm q (Finset.mem_univ _)) fun e => ?_⟩
  exact absurd (hp' q (e.trans hp)) (not_le.mpr hq)

/-- The lowest position of a row's greatest entry. -/
def top (f : Fin 2048 → EReal) : Fin 2048 := (exists_isTop f).choose

/-- The chosen position is a top of the row. -/
theorem top_isTop (f : Fin 2048 → EReal) : IsTop f (top f) := (exists_isTop f).choose_spec

/-- A position's word read as a signed number is the position. -/
theorem toInt_ofNat_small (n : ℕ) (h : n ≤ 2048) : (BitVec.ofNat 32 n).toInt = n := by
  have h2 : n % 4294967296 = n := Nat.mod_eq_of_lt (by omega)
  rw [BitVec.toInt_eq_toNat_cond]; simp only [BitVec.toNat_ofNat, Nat.reducePow, h2]; rw [if_pos (by omega)]

/-- Two positions' words are equal exactly when the positions are. -/
theorem ofNat_inj_small (p q : Fin 2048) : (BitVec.ofNat 32 p.val == BitVec.ofNat 32 q.val) = decide (p = q) := by
  have hp : p.val % 4294967296 = p.val := Nat.mod_eq_of_lt (by omega)
  have hq : q.val % 4294967296 = q.val := Nat.mod_eq_of_lt (by omega)
  by_cases h : p = q
  · simp [h]
  · have : BitVec.ofNat 32 p.val ≠ BitVec.ofNat 32 q.val := fun e => h (Fin.ext (by
      have := congrArg BitVec.toNat e
      simpa [BitVec.toNat_ofNat, hp, hq] using this))
    simp [h, this]

/-- Per row, the lowest position of the greatest entry, as a column of words. -/
def topCol (v : FVec Ideal S256x2048 .f32) : IVec S256x1 32 :=
  shapeCast S256x1 (multiReductionI .minsi [1] S256
    (select (cmpf .oeq v (broadcastTo S256x2048 (shapeCast S256x1
        (multiReduction .maximumf [1] S256 v 0xFF800000#32 reduces_S256x2048_S256 (.inl rfl) rfl) shapeCasts_S256_S256x1)
        broadcasts_S256x1_S256x2048))
      (iota .tc S256x2048 32 [1] iota_S256x2048_d1_w32) (broadcast S256x2048 2048#32))
    2147483647#32 reduces_S256x2048_S256 rfl) shapeCasts_S256_S256x1

/-- The block with one position per row struck out. -/
def strike (v : FVec Ideal S256x2048 .f32) (i : IVec S256x1 32) : FVec Ideal S256x2048 .f32 :=
  select (cmpi .eq (iota .tc S256x2048 32 [1] iota_S256x2048_d1_w32) (broadcastTo S256x2048 i broadcasts_S256x1_S256x2048))
    (broadcast S256x2048 (Named.named κ "mask" 0xFF61B1E6#32)) v

/-- One round: the tops struck out. -/
def round (v : FVec Ideal S256x2048 .f32) : FVec Ideal S256x2048 .f32 := strike v (topCol v)

/-- The column of tops holds, at a row, the word of that row's top. -/
theorem topCol_at (v : FVec Ideal S256x2048 .f32) (r : Fin 256) : topCol v (ix2 r 0) = BitVec.ofNat 32 (top fun q => v (ix2 r q)) := by
  pointwise [topCol]
  have hp := top_isTop fun q => v (ix2 r q)
  generalize top (fun q => v (ix2 r q)) = p at hp
  rw [word_bot, fold_max_eq (fun q => v (ix2 r q)) p hp.1]
  have hw := fold_minsi_eq (fun x : Fin 2048 => if v (ix2 r x) = v (ix2 r p) then BitVec.ofNat 32 ↑x else 2048#32) p (fun q => by
    rw [if_pos rfl, toInt_ofNat_small p (by omega)]
    split
    · rename_i h
      rw [toInt_ofNat_small q (by omega)]
      by_contra hlt
      exact absurd h (ne_of_lt (hp.2 q (by rw [Fin.lt_def]; omega)))
    · have : (2048#32 : BitVec 32).toInt = 2048 := by decide
      rw [this]; omega)
  rw [if_pos rfl] at hw
  exact hw

/-- A struck block holds minus infinity at the struck position and the old entry elsewhere. -/
theorem strike_at (v : FVec Ideal S256x2048 .f32) (i : IVec S256x1 32) (r : Fin 256) (k p : Fin 2048)
    (hi : i (ix2 r 0) = BitVec.ofNat 32 k) : strike v i (ix2 r p) = if p = k then ⊥ else v (ix2 r p) := by
  have hm : (Named.named (F := Ideal) κ "mask" 0xFF61B1E6#32 : Ideal .f32) = (⊥ : EReal) :=
    IdealRules.named_const.ideal_named_scalar κ "mask" _ _ rfl
  pointwise [strike]
  rw [hi, hm]
  unfold IntOp.cmpi Scalar.select
  simp only [ofNat_inj_small]
  by_cases h : p = k <;> simp [h]

/-- The first twenty tops of a block's rows, as columns, are the rows' twenty neighbours. -/
theorem rounds_at (v : FVec Ideal S256x2048 .f32) (r : Fin 256) (hv : ∀ q, v (ix2 r q) ≠ (⊥ : EReal)) (k : Fin 20) :
    topCol (round^[k] v) (ix2 r 0) = BitVec.ofNat 32 (nbr (fun q => v (ix2 r q)) k) := by
  rw [topCol_at]
  refine congrArg (fun z : Fin 2048 => BitVec.ofNat 32 z.val) (nbr_eq_of_rounds _ hv (fun k q => (round^[k] v) (ix2 r q))
    (fun k => top fun q => (round^[k] v) (ix2 r q)) rfl (fun k => ?_) (fun k _ => top_isTop _) k).symm
  funext p
  rw [Function.iterate_succ', Function.comp_apply]
  exact strike_at _ _ r _ p (topCol_at _ r)

/-- The neighbour indices of a block's rows, side by side. -/
def knnCat (v : FVec Ideal S256x2048 .f32) : IVec S256x20 32 :=
  concatenate S256x20 1 (List.ofFn fun n : Fin 20 => (⟨S256x1, topCol (round^[n] v)⟩ : (s : Shape) × (s.Idx → BitVec 32)))
    concatenates_S256x1_S256x1_S256x1_S256x1_S256x1_S256x1_S256x1_S256x1_S256x1_S256x1_S256x1_S256x1_S256x1_S256x1_S256x1_S256x1_S256x1_S256x1_S256x1_S256x1_S256x20_d1

/-- Column `k` of the indices side by side holds, at a row, the row's neighbour number `k`. -/
theorem knnCat_at (v : FVec Ideal S256x2048 .f32) (r : Fin 256) (hv : ∀ q, v (ix2 r q) ≠ (⊥ : EReal)) (k : Fin 20) :
    knnCat v (ix2 r k) = BitVec.ofNat 32 (nbr (fun q => v (ix2 r q)) k) := by
  rw [← rounds_at v r hv k]
  refine concatenate_ofFn_unit_eq (s₁ := S256x1) 1 (fun n : Fin 20 => topCol (round^[n] v)) _ (ix2 r k) _ rfl rfl fun n i hn h0 hb => ?_
  have e : i = ix2 r 0 := by
    funext a
    fin_cases a
    · exact Fin.ext (hb 0 (by decide))
    · exact Fin.ext h0
  have en : n = k := Fin.ext hn.symm
  rw [e, en]

/-- The block of neighbour indices from the block of distances. -/
def knnBlock (v : FVec Ideal S256x2048 .f32) : IVec S1x256x20 32 := shapeCast S1x256x20 (knnCat v) shapeCasts_S256x20_S1x256x20

/-- The block of neighbour indices holds, at a row and a column `k`, the row's neighbour number `k`. -/
theorem knnBlock_at (v : FVec Ideal S256x2048 .f32) (r : Fin 256) (hv : ∀ q, v (ix2 r q) ≠ (⊥ : EReal)) (k : Fin 20) :
    knnBlock v (ix3 0 r k) = BitVec.ofNat 32 (nbr (fun q => v (ix2 r q)) k) := by
  rw [← knnCat_at v r hv k]
  pointwise [knnBlock]

/-! The payloads of a block's twenty rounds, one by one: each is a top, a strike or half of one, of the block before it. -/

/-- The positions along a row, as words. -/
abbrev lanes : IVec S256x2048 32 := iota .tc S256x2048 32 [1] iota_S256x2048_d1_w32

/-- A column of words repeated along the rows. -/
abbrev spread (i : IVec S256x1 32) : IVec S256x2048 32 := broadcastTo S256x2048 i broadcasts_S256x1_S256x2048

/-- Each row's greatest entry, repeated along the row. -/
def maxSpread (v : FVec Ideal S256x2048 .f32) : FVec Ideal S256x2048 .f32 := broadcastTo S256x2048 (shapeCast S256x1
  (multiReduction .maximumf [1] S256 v 0xFF800000#32 reduces_S256x2048_S256 (.inl rfl) rfl) shapeCasts_S256_S256x1)
  broadcasts_S256x1_S256x2048

/-- The positions at which a row takes its greatest entry, and the row's length at the others. -/
def maxLanes (v : FVec Ideal S256x2048 .f32) : IVec S256x2048 32 :=
  select (cmpf .oeq v (maxSpread v)) lanes (broadcast S256x2048 2048#32)

variable (v : FVec Ideal S256x2048 .f32) (i : IVec S256x1 32) (b : IVec S256x2048 32)

/-- Striking out the tops is one round. -/
theorem round_fold : strike v (topCol v) = round v := rfl
/-- Payload 6 of the search holds the block with one position per row struck out. -/
theorem pay6 : k0_pay6 lanes v (spread i) = strike v i := rfl
/-- Payload 7 of the search holds the tops. -/
theorem pay7 : k0_pay7 lanes v b = topCol (k0_pay6 lanes v b) := rfl
/-- Payload 8 of the search holds the block after one more round. -/
theorem pay8 : k0_pay8 lanes v b = round (k0_pay6 lanes v b) := rfl
/-- Payload 9 of the search holds the tops. -/
theorem pay9 : k0_pay9 lanes v b = topCol (k0_pay8 lanes v b) := rfl
/-- Payload 10 of the search holds the block after one more round. -/
theorem pay10 : k0_pay10 lanes v b = round (k0_pay8 lanes v b) := rfl
/-- Payload 11 of the search holds the tops. -/
theorem pay11 : k0_pay11 lanes v b = topCol (k0_pay10 lanes v b) := rfl
/-- Payload 12 of the search holds the block after one more round. -/
theorem pay12 : k0_pay12 lanes v b = round (k0_pay10 lanes v b) := rfl
/-- Payload 13 of the search holds the candidates for the tops. -/
theorem pay13 : k0_pay13 lanes v b = maxLanes (k0_pay12 lanes v b) := rfl
/-- Payload 14 of the search holds the tops. -/
theorem pay14 : k0_pay14 (maxLanes v) = topCol v := rfl
/-- Payload 15 of the search holds the block after one more round. -/
theorem pay15 : k0_pay15 lanes v (maxLanes v) = round v := rfl
/-- Payload 16 of the search holds the tops. -/
theorem pay16 : k0_pay16 lanes v b = topCol (k0_pay15 lanes v b) := rfl
/-- Payload 17 of the search holds the block after one more round. -/
theorem pay17 : k0_pay17 lanes v b = round (k0_pay15 lanes v b) := rfl
/-- Payload 18 of the search holds the tops. -/
theorem pay18 : k0_pay18 lanes v b = topCol (k0_pay17 lanes v b) := rfl
/-- Payload 19 of the search holds the block after one more round. -/
theorem pay19 : k0_pay19 lanes v b = round (k0_pay17 lanes v b) := rfl
/-- Payload 20 of the search holds the tops. -/
theorem pay20 : k0_pay20 lanes v b = topCol (k0_pay19 lanes v b) := rfl
/-- Payload 21 of the search holds the block after one more round. -/
theorem pay21 : k0_pay21 lanes v b = round (k0_pay19 lanes v b) := rfl
/-- Payload 22 of the search holds the greatest entries along the rows. -/
theorem pay22 : k0_pay22 lanes v b = maxSpread (k0_pay21 lanes v b) := rfl
/-- Payload 23 of the search holds the tops. -/
theorem pay23 : k0_pay23 lanes v (maxSpread v) = topCol v := rfl
/-- Payload 24 of the search holds the block after one more round. -/
theorem pay24 : k0_pay24 lanes v (maxSpread v) = round v := rfl
/-- Payload 25 of the search holds the tops. -/
theorem pay25 : k0_pay25 lanes v (maxSpread v) = topCol (k0_pay24 lanes v (maxSpread v)) := rfl
/-- Payload 26 of the search holds the block after one more round. -/
theorem pay26 : k0_pay26 lanes v (maxSpread v) = round (k0_pay24 lanes v (maxSpread v)) := rfl
/-- Payload 27 of the search holds the tops. -/
theorem pay27 : k0_pay27 lanes v (maxSpread v) = topCol (k0_pay26 lanes v (maxSpread v)) := rfl
/-- Payload 28 of the search holds the block after one more round. -/
theorem pay28 : k0_pay28 lanes v (maxSpread v) = round (k0_pay26 lanes v (maxSpread v)) := rfl
/-- Payload 29 of the search holds the tops. -/
theorem pay29 : k0_pay29 lanes v (maxSpread v) = topCol (k0_pay28 lanes v (maxSpread v)) := rfl
/-- Payload 30 of the search holds the block after one more round. -/
theorem pay30 : k0_pay30 lanes v (maxSpread v) = round (k0_pay28 lanes v (maxSpread v)) := rfl
/-- Payload 31 of the search holds the tops. -/
theorem pay31 : k0_pay31 lanes v = topCol v := rfl
/-- Payload 32 of the search holds the block after one more round. -/
theorem pay32 : k0_pay32 lanes v = round v := rfl
/-- Payload 33 of the search holds the tops. -/
theorem pay33 : k0_pay33 lanes v = topCol (k0_pay32 lanes v) := rfl
/-- Payload 34 of the search holds the block after one more round. -/
theorem pay34 : k0_pay34 lanes v = round (k0_pay32 lanes v) := rfl
/-- Payload 35 of the search holds the tops. -/
theorem pay35 : k0_pay35 lanes v = topCol (k0_pay34 lanes v) := rfl
/-- Payload 36 of the search holds the block after one more round. -/
theorem pay36 : k0_pay36 lanes v = round (k0_pay34 lanes v) := rfl
/-- Payload 37 of the search holds the tops. -/
theorem pay37 : k0_pay37 lanes v = topCol (k0_pay36 lanes v) := rfl
/-- Payload 38 of the search holds the tops along the rows. -/
theorem pay38 : k0_pay38 lanes v = spread (k0_pay37 lanes v) := rfl
/-- Payload 39 of the search holds the block with one position per row struck out. -/
theorem pay39 : k0_pay39 lanes v (spread i) = strike v i := rfl
/-- Payload 40 of the search holds the candidates for the tops. -/
theorem pay40 : k0_pay40 lanes v = maxLanes v := rfl
/-- Payload 41 of the search holds the tops. -/
theorem pay41 : k0_pay41 (maxLanes v) = topCol v := rfl
/-- Payload 42 of the search holds the block with one position per row struck out. -/
theorem pay42 : k0_pay42 lanes v i = strike v i := rfl
/-- Payload 43 of the search holds the candidates for the tops. -/
theorem pay43 : k0_pay43 lanes v = maxLanes v := rfl
/-- Payload 44 of the search holds the tops. -/
theorem pay44 : k0_pay44 (maxLanes v) = topCol v := rfl
/-- Payload 45 of the search holds the block with one position per row struck out. -/
theorem pay45 : k0_pay45 lanes v i = strike v i := rfl
/-- Payload 46 of the search holds the candidates for the tops. -/
theorem pay46 : k0_pay46 lanes v = maxLanes v := rfl

/-- A list of twenty columns written out. -/
theorem unrolled (u : Fin 20 → IVec S256x1 32) : List.ofFn (fun n : Fin 20 => (⟨S256x1, u n⟩ : (s : Shape) × (s.Idx → BitVec 32)))
    = [⟨S256x1, u 0⟩, ⟨S256x1, u 1⟩, ⟨S256x1, u 2⟩, ⟨S256x1, u 3⟩, ⟨S256x1, u 4⟩, ⟨S256x1, u 5⟩, ⟨S256x1, u 6⟩, ⟨S256x1, u 7⟩, ⟨S256x1, u 8⟩, ⟨S256x1, u 9⟩, ⟨S256x1, u 10⟩, ⟨S256x1, u 11⟩, ⟨S256x1, u 12⟩, ⟨S256x1, u 13⟩, ⟨S256x1, u 14⟩, ⟨S256x1, u 15⟩, ⟨S256x1, u 16⟩, ⟨S256x1, u 17⟩, ⟨S256x1, u 18⟩, ⟨S256x1, u 19⟩] := by
  simp only [List.ofFn_succ, List.ofFn_zero]
  rfl

/-- Columns side by side depend only on the list of columns. -/
theorem concatenate_congr (x y : List ((s : Shape) × (s.Idx → BitVec 32))) (h : x = y) (hx hy) :
    concatenate S256x20 1 x hx = concatenate S256x20 1 y hy := by
  subst h; rfl

/-- The twenty columns the payload takes, side by side. -/
theorem pay47 (u : Fin 20 → IVec S256x1 32) (h : topCol v = u 19) : k0_pay47 (u 0) (u 1) (u 2) (u 3) (u 4) (u 5) (u 6) (u 7) (u 8) (u 9) (u 10) (u 11) (u 12) (u 13) (u 14) (u 15) (u 16) (u 17) (u 18) (maxLanes v)
    = concatenate S256x20 1 (List.ofFn fun n : Fin 20 => (⟨S256x1, u n⟩ : (s : Shape) × (s.Idx → BitVec 32)))
    concatenates_S256x1_S256x1_S256x1_S256x1_S256x1_S256x1_S256x1_S256x1_S256x1_S256x1_S256x1_S256x1_S256x1_S256x1_S256x1_S256x1_S256x1_S256x1_S256x1_S256x1_S256x20_d1 := by
  refine concatenate_congr [⟨S256x1, u 0⟩, ⟨S256x1, u 1⟩, ⟨S256x1, u 2⟩, ⟨S256x1, u 3⟩, ⟨S256x1, u 4⟩, ⟨S256x1, u 5⟩, ⟨S256x1, u 6⟩, ⟨S256x1, u 7⟩, ⟨S256x1, u 8⟩, ⟨S256x1, u 9⟩, ⟨S256x1, u 10⟩, ⟨S256x1, u 11⟩, ⟨S256x1, u 12⟩, ⟨S256x1, u 13⟩, ⟨S256x1, u 14⟩, ⟨S256x1, u 15⟩, ⟨S256x1, u 16⟩, ⟨S256x1, u 17⟩, ⟨S256x1, u 18⟩, ⟨S256x1, topCol v⟩]
    (List.ofFn fun n : Fin 20 => (⟨S256x1, u n⟩ : (s : Shape) × (s.Idx → BitVec 32))) ?_
    concatenates_S256x1_S256x1_S256x1_S256x1_S256x1_S256x1_S256x1_S256x1_S256x1_S256x1_S256x1_S256x1_S256x1_S256x1_S256x1_S256x1_S256x1_S256x1_S256x1_S256x1_S256x20_d1 concatenates_S256x1_S256x1_S256x1_S256x1_S256x1_S256x1_S256x1_S256x1_S256x1_S256x1_S256x1_S256x1_S256x1_S256x1_S256x1_S256x1_S256x1_S256x1_S256x1_S256x1_S256x20_d1
  rw [unrolled, ← h]

/-- The block the payloads store is the block of neighbour indices. -/
theorem pay48 : k0_pay48 (k0_pay47 (topCol v) (topCol (round v)) (topCol (round (round v))) (topCol (round (round (round v)))) (topCol (round (round (round (round v))))) (topCol (round (round (round (round (round v)))))) (topCol (round (round (round (round (round (round v))))))) (topCol (round (round (round (round (round (round (round v)))))))) (topCol (round (round (round (round (round (round (round (round v))))))))) (topCol (round (round (round (round (round (round (round (round (round v)))))))))) (topCol (round (round (round (round (round (round (round (round (round (round v))))))))))) (topCol (round (round (round (round (round (round (round (round (round (round (round v)))))))))))) (topCol (round (round (round (round (round (round (round (round (round (round (round (round v))))))))))))) (topCol (round (round (round (round (round (round (round (round (round (round (round (round (round v)))))))))))))) (topCol (round (round (round (round (round (round (round (round (round (round (round (round (round (round v))))))))))))))) (topCol (round (round (round (round (round (round (round (round (round (round (round (round (round (round (round v)))))))))))))))) (topCol (round (round (round (round (round (round (round (round (round (round (round (round (round (round (round (round v))))))))))))))))) (topCol (round (round (round (round (round (round (round (round (round (round (round (round (round (round (round (round (round v)))))))))))))))))) (topCol (round (round (round (round (round (round (round (round (round (round (round (round (round (round (round (round (round (round v)))))))))))))))))))
    (maxLanes (round (round (round (round (round (round (round (round (round (round (round (round (round (round (round (round (round (round (round v))))))))))))))))))))) = knnBlock v := by
  refine congrArg k0_pay48 ?_
  have h := pay47 (round^[19] v) (fun n => topCol (round^[n] v)) rfl
  refine Eq.trans ?_ h
  simp only [Fin.isValue, Fin.val_zero, Fin.val_one, Fin.coe_ofNat_eq_mod, Nat.reduceMod, Function.iterate_succ, Function.iterate_zero, Function.comp_apply, id_eq]

end Cert.Proof

end

end
-- ==== Proof.Region0.lean ====
module

public import proofs.«01_k».proof.Proof.Knn
public import proofs.«01_k».proof.Proof.Spec
public import proofs.«01_k».proof.Proof.Gen.KernelIdeal.Frame

/-! The first neighbour call: the array of neighbour indices after it. -/

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The blocks that the windows of the first search stand at, at each grid step. -/
theorem idx0 : ∀ t : Fin cfg0.N, win0_0.index t = ![(grid0.coords t 0).val, 0, 0]
    ∧ win0_1.index t = ![(grid0.coords t 0).val, (grid0.coords t 1).val, 0]
    ∧ win0_2.index t = ![(grid0.coords t 0).val, (grid0.coords t 1).val, 0] :=
  (by decide +kernel : ∀ t : Fin grid0.N, _)

/-- The matrix of negated squared distances of a block of points to all points. -/
theorem dist8_at (X : Fin 8 → Fin 2048 → Fin 8 → ℝ) (x : Vec Ideal S1x256x8 .f32) (xt : Vec Ideal S1x8x2048 .f32) (b : Fin 8)
    (i : Fin 2048) (r : Fin 256) (hx : ∀ ch, x (ix3 0 r ch) = (X b i ch : EReal)) (ht : ∀ ch q, xt (ix3 0 ch q) = (X b q ch : EReal))
    (q : Fin 2048) : k0_pay1 x xt (ix2 r q) = (dist X b i q : EReal) := by
  pointwise [k0_pay1]
  simp only [hx, ht, word_two, ← EReal.coe_mul, ← EReal.coe_sub, sum_coe]
  rfl

/-- What the first neighbour call stores at a grid point: the neighbour indices of its block of points. -/
theorem out0_eq (x0 : Vec Ideal S1x8x2048 .f32) (x1 : Vec Ideal S1x256x8 .f32) : out0_2 x0 x1 = knnBlock (k0_pay1 x1 x0) := by
  frame_out
  simp only [show ∀ x y, k0_pay49 (F := Ideal) x y = lanes from fun _ _ => rfl, k0_pay50, k0_pay51, k0_pay52, k0_pay53, k0_pay54, k0_pay55, k0_pay56, k0_pay57, k0_pay58, k0_pay59, k0_pay60,
    show ∀ x y, k0_pay2 (F := Ideal) x y = topCol (k0_pay1 x y) from fun _ _ => rfl, show ∀ x y, k0_pay3 (F := Ideal) x y = round (k0_pay1 x y) from fun _ _ => rfl,
    show ∀ x y, k0_pay4 (F := Ideal) x y = topCol (k0_pay3 x y) from fun _ _ => rfl, show ∀ x y, k0_pay5 (F := Ideal) x y = spread (k0_pay4 x y) from fun _ _ => rfl, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, round_fold]
  have e1 : View.ld x1 r0_0 = x1 := View.ld_unit_lit _ _ (by decide)
  have e0 : View.ld x0 r0_1 = x0 := View.ld_unit_lit _ _ (by decide)
  rw [e0, e1, pay48]

/-- What the first search reads through window 1: the tile of points. -/
theorem read0_1 (c : Dev nD) (t : Fin cfg0.N) (b : Fin 8) (i : Fin 2048) (r : Fin 256) (ch : Fin 8)
    (hb : b.val = (grid0.coords t 0).val) (hi : i.val = (grid0.coords t 1).val * 256 + r.val) :
    iblk0 V c 1 t (ix3 0 r ch) = V c main_v1 (ix3 b i ch) := by
  blk_ext [iblk0, idx0 t]

/-- What the first search reads through window 0: the transposed points. -/
theorem read0_0 (c : Dev nD) (t : Fin cfg0.N) (b : Fin 8) (q : Fin 2048) (ch : Fin 8)
    (hb : b.val = (grid0.coords t 0).val) : iblk0 V c 0 t (ix3 0 ch q) = V c main_v2 (ix3 b ch q) := by
  blk_ext [iblk0, idx0 t]

/-- What the first search stores at a grid step: the block of neighbour indices. -/
theorem block0 (c : Dev nD) (X : Fin 8 → Fin 2048 → Fin 8 → ℝ) (hx : ∀ b i ch, V c main_v1 (ix3 b i ch) = (X b i ch : EReal))
    (ht : ∀ b i ch, V c main_v2 (ix3 b ch i) = (X b i ch : EReal)) (t : Fin cfg0.N) (b : Fin 8) (i : Fin 2048) (r : Fin 256)
    (k k' : Fin 20) (hb : b.val = (grid0.coords t 0).val + (0 : Fin 1).val) (hi : i.val = (grid0.coords t 1).val * 256 + r.val) (hk : k'.val = k.val) :
    knnBlock (k0_pay1 (iblk0 V c 1 t) (iblk0 V c 0 t)) (ix3 0 r k) = BitVec.ofNat 32 (near X b i k') := by
  obtain rfl : k' = k := Fin.ext hk
  have hd := dist8_at X (iblk0 V c 1 t) (iblk0 V c 0 t) b i r (fun ch => (read0_1 V c t b i r ch hb hi).trans (hx b i ch))
    (fun ch q => (read0_0 V c t b q ch hb).trans (ht b q ch))
  refine (knnBlock_at _ r (fun q => by rw [hd]; exact EReal.coe_ne_bot _) k').trans ?_
  unfold near
  simp only [hd]

/-- After the first neighbour call its array holds every point's neighbours. -/
theorem arr0 (c : Dev nD) (X : Fin 8 → Fin 2048 → Fin 8 → ℝ) (hx : ∀ b i ch, V c main_v1 (ix3 b i ch) = (X b i ch : EReal))
    (ht : ∀ b i ch, V c main_v2 (ix3 b ch i) = (X b i ch : EReal)) :
    (dat0 V c).arrAt 2 cfg0.N = fun j : S8x2048x20.Idx => BitVec.ofNat 32 (near X (j 0) (j 1) (j 2)) := by
  refine (dat0 V c).arrAt_eq_of_covers 2 _ (by decide +kernel) fun t _ y => ?_
  blk_simp
  rw [after0_2, out0_eq]
  generalize hj : ((cfg0.win 2).blk t).view.emb y = j
  have h0 : (j 0 : ℕ) = (grid0.coords t 0).val + (y 0).val := by rw [← hj]; blk_simp [idx0 t]
  have h1 : (j 1 : ℕ) = (grid0.coords t 1).val * 256 + (y 1).val := by rw [← hj]; blk_simp [idx0 t]
  have h2 : (j 2 : ℕ) = (y 2).val := by rw [← hj]; blk_simp [idx0 t]
  have hy : y = ix3 0 (y 1) (y 2) := by blk_ext
  have hy0 : (y 0).val = 0 := by rw [hy]; rfl
  rw [hy]
  exact block0 V c X hx ht t (j 0) (j 1) (y 1) (y 2) (j 2) (h0.trans (congrArg _ hy0)) h1 h2

end Cert.Proof

end

end
-- ==== Proof.Region3.lean ====
module

public import proofs.«01_k».proof.Proof.Knn
public import proofs.«01_k».proof.Proof.Spec
public import proofs.«01_k».proof.Proof.Gen.KernelIdeal.Frame

/-! The second neighbour call: the array of neighbour indices after it. -/

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The blocks that the windows of the second search stand at, at each grid step. -/
theorem idx3 : ∀ t : Fin cfg3.N, win3_0.index t = ![(grid3.coords t 0).val, 0, 0]
    ∧ win3_1.index t = ![(grid3.coords t 0).val, (grid3.coords t 1).val, 0]
    ∧ win3_2.index t = ![(grid3.coords t 0).val, (grid3.coords t 1).val, 0] :=
  (by decide +kernel : ∀ t : Fin grid3.N, _)

/-- The matrix of negated squared distances of a block of points to all points. -/
theorem dist64_at (X : Fin 8 → Fin 2048 → Fin 64 → ℝ) (x : Vec Ideal S1x256x64 .f32) (xt : Vec Ideal S1x64x2048 .f32) (b : Fin 8)
    (i : Fin 2048) (r : Fin 256) (hx : ∀ ch, x (ix3 0 r ch) = (X b i ch : EReal)) (ht : ∀ ch q, xt (ix3 0 ch q) = (X b q ch : EReal))
    (q : Fin 2048) : k3_pay1 x xt (ix2 r q) = (dist X b i q : EReal) := by
  pointwise [k3_pay1]
  simp only [hx, ht, word_two, ← EReal.coe_mul, ← EReal.coe_sub, sum_coe]
  rfl

/-- What the second neighbour call stores at a grid point: the neighbour indices of its block of points. -/
theorem out3_eq (x0 : Vec Ideal S1x64x2048 .f32) (x1 : Vec Ideal S1x256x64 .f32) : out3_2 x0 x1 = knnBlock (k3_pay1 x1 x0) := by
  frame_out
  simp only [show ∀ x y, k3_pay49 (F := Ideal) x y = lanes from fun _ _ => rfl, k3_pay50, k3_pay51, k3_pay52, k3_pay53, k3_pay54, k3_pay55, k3_pay56, k3_pay57, k3_pay58, k3_pay59, k3_pay60,
    show ∀ x y, k3_pay2 (F := Ideal) x y = topCol (k3_pay1 x y) from fun _ _ => rfl, show ∀ x y, k3_pay3 (F := Ideal) x y = round (k3_pay1 x y) from fun _ _ => rfl,
    show ∀ x y, k3_pay4 (F := Ideal) x y = topCol (k3_pay3 x y) from fun _ _ => rfl, show ∀ x y, k3_pay5 (F := Ideal) x y = spread (k3_pay4 x y) from fun _ _ => rfl,
    show k3_pay6 (F := Ideal) = k0_pay6 from rfl, show k3_pay7 (F := Ideal) = k0_pay7 from rfl, show k3_pay8 (F := Ideal) = k0_pay8 from rfl, show k3_pay9 (F := Ideal) = k0_pay9 from rfl, show k3_pay10 (F := Ideal) = k0_pay10 from rfl, show k3_pay11 (F := Ideal) = k0_pay11 from rfl, show k3_pay12 (F := Ideal) = k0_pay12 from rfl, show k3_pay13 (F := Ideal) = k0_pay13 from rfl, show k3_pay14 = k0_pay14 from rfl, show k3_pay15 (F := Ideal) = k0_pay15 from rfl, show k3_pay16 (F := Ideal) = k0_pay16 from rfl, show k3_pay17 (F := Ideal) = k0_pay17 from rfl, show k3_pay18 (F := Ideal) = k0_pay18 from rfl, show k3_pay19 (F := Ideal) = k0_pay19 from rfl, show k3_pay20 (F := Ideal) = k0_pay20 from rfl, show k3_pay21 (F := Ideal) = k0_pay21 from rfl, show k3_pay22 (F := Ideal) = k0_pay22 from rfl, show k3_pay23 (F := Ideal) = k0_pay23 from rfl, show k3_pay24 (F := Ideal) = k0_pay24 from rfl, show k3_pay25 (F := Ideal) = k0_pay25 from rfl, show k3_pay26 (F := Ideal) = k0_pay26 from rfl, show k3_pay27 (F := Ideal) = k0_pay27 from rfl, show k3_pay28 (F := Ideal) = k0_pay28 from rfl, show k3_pay29 (F := Ideal) = k0_pay29 from rfl, show k3_pay30 (F := Ideal) = k0_pay30 from rfl, show k3_pay31 (F := Ideal) = k0_pay31 from rfl, show k3_pay32 (F := Ideal) = k0_pay32 from rfl, show k3_pay33 (F := Ideal) = k0_pay33 from rfl, show k3_pay34 (F := Ideal) = k0_pay34 from rfl, show k3_pay35 (F := Ideal) = k0_pay35 from rfl, show k3_pay36 (F := Ideal) = k0_pay36 from rfl, show k3_pay37 (F := Ideal) = k0_pay37 from rfl, show k3_pay38 (F := Ideal) = k0_pay38 from rfl, show k3_pay39 (F := Ideal) = k0_pay39 from rfl, show k3_pay40 (F := Ideal) = k0_pay40 from rfl, show k3_pay41 = k0_pay41 from rfl, show k3_pay42 (F := Ideal) = k0_pay42 from rfl, show k3_pay43 (F := Ideal) = k0_pay43 from rfl, show k3_pay44 = k0_pay44 from rfl, show k3_pay45 (F := Ideal) = k0_pay45 from rfl, show k3_pay46 (F := Ideal) = k0_pay46 from rfl, show @k3_pay47 = @k0_pay47 from rfl, show @k3_pay48 = @k0_pay48 from rfl,
    pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, round_fold]
  have e1 : View.ld x1 r3_0 = x1 := View.ld_unit_lit _ _ (by decide)
  have e0 : View.ld x0 r3_1 = x0 := View.ld_unit_lit _ _ (by decide)
  rw [e0, e1, pay48]

/-- What the second search reads through window 1: the tile of features. -/
theorem read3_1 (c : Dev nD) (t : Fin cfg3.N) (b : Fin 8) (i : Fin 2048) (r : Fin 256) (ch : Fin 64)
    (hb : b.val = (grid3.coords t 0).val) (hi : i.val = (grid3.coords t 1).val * 256 + r.val) :
    iblk3 V c 1 t (ix3 0 r ch) = V c main_v29 (ix3 b i ch) := by
  blk_ext [iblk3, idx3 t]

/-- What the second search reads through window 0: the transposed features. -/
theorem read3_0 (c : Dev nD) (t : Fin cfg3.N) (b : Fin 8) (q : Fin 2048) (ch : Fin 64)
    (hb : b.val = (grid3.coords t 0).val) : iblk3 V c 0 t (ix3 0 ch q) = V c main_v30 (ix3 b ch q) := by
  blk_ext [iblk3, idx3 t]

/-- What the second search stores at a grid step: the block of neighbour indices. -/
theorem block3 (c : Dev nD) (X : Fin 8 → Fin 2048 → Fin 64 → ℝ) (hx : ∀ b i ch, V c main_v29 (ix3 b i ch) = (X b i ch : EReal))
    (ht : ∀ b i ch, V c main_v30 (ix3 b ch i) = (X b i ch : EReal)) (t : Fin cfg3.N) (b : Fin 8) (i : Fin 2048) (r : Fin 256)
    (k k' : Fin 20) (hb : b.val = (grid3.coords t 0).val + (0 : Fin 1).val) (hi : i.val = (grid3.coords t 1).val * 256 + r.val) (hk : k'.val = k.val) :
    knnBlock (k3_pay1 (iblk3 V c 1 t) (iblk3 V c 0 t)) (ix3 0 r k) = BitVec.ofNat 32 (near X b i k') := by
  obtain rfl : k' = k := Fin.ext hk
  have hd := dist64_at X (iblk3 V c 1 t) (iblk3 V c 0 t) b i r (fun ch => (read3_1 V c t b i r ch hb hi).trans (hx b i ch))
    (fun ch q => (read3_0 V c t b q ch hb).trans (ht b q ch))
  refine (knnBlock_at _ r (fun q => by rw [hd]; exact EReal.coe_ne_bot _) k').trans ?_
  unfold near
  simp only [hd]

/-- After the second neighbour call its array holds every point's neighbours. -/
theorem arr3 (c : Dev nD) (X : Fin 8 → Fin 2048 → Fin 64 → ℝ) (hx : ∀ b i ch, V c main_v29 (ix3 b i ch) = (X b i ch : EReal))
    (ht : ∀ b i ch, V c main_v30 (ix3 b ch i) = (X b i ch : EReal)) :
    (dat3 V c).arrAt 2 cfg3.N = fun j : S8x2048x20.Idx => BitVec.ofNat 32 (near X (j 0) (j 1) (j 2)) := by
  refine (dat3 V c).arrAt_eq_of_covers 2 _ (by decide +kernel) fun t _ y => ?_
  blk_simp
  rw [after3_2, out3_eq]
  generalize hj : ((cfg3.win 2).blk t).view.emb y = j
  have h0 : (j 0 : ℕ) = (grid3.coords t 0).val + (y 0).val := by rw [← hj]; blk_simp [idx3 t]
  have h1 : (j 1 : ℕ) = (grid3.coords t 1).val * 256 + (y 1).val := by rw [← hj]; blk_simp [idx3 t]
  have h2 : (j 2 : ℕ) = (y 2).val := by rw [← hj]; blk_simp [idx3 t]
  have hy : y = ix3 0 (y 1) (y 2) := by blk_ext
  have hy0 : (y 0).val = 0 := by rw [hy]; rfl
  rw [hy]
  exact block3 V c X hx ht t (j 0) (j 1) (y 1) (y 2) (j 2) (h0.trans (congrArg _ hy0)) h1 h2

end Cert.Proof

end

end
-- ==== Proof.Edge1.lean ====
module

public import proofs.«01_k».proof.Proof.Chain
public import proofs.«01_k».proof.Proof.Knn
public import proofs.«01_k».proof.Proof.Gen.KernelIdeal.Frame

/-! The first edge call at one grid point: the edge products of a block of points with its twenty neighbours. -/

@[expose] public section

set_option maxRecDepth 16384

noncomputable section

namespace Cert.Proof

open Idealize.ShloMosaic Idealize.ShloMosaic.TcCoe Cert.KernelIdeal Cert.KernelIdeal.Gen

/-- Each of the twenty columns is a slice of the index block. -/
theorem slices_col (k : ℕ) : S256x20.Slices ![0, k % 20] S256x1 :=
  (by decide : ∀ k : Fin 20, S256x20.Slices ![0, k.val] S256x1) ⟨k % 20, Nat.mod_lt _ (by decide)⟩

/-- The lanes that equal the block's `k`-th neighbour: a one in each row. -/
def onehot (v8 : IVec S256x20 32) (k : ℕ) : FVec Ideal S256x2048 .f32 :=
  select (cmpi .eq lanes (broadcastTo S256x2048 (shapeCast S256x1 (shapeCast S256
    (extractStridedSlice S256x1 ![0, k % 20] v8 (slices_col k)) shapeCasts_S256x1_S256) shapeCasts_S256_S256x1) broadcasts_S256x1_S256x2048))
  (broadcast S256x2048 (Scalar.ofBits (F := Ideal) .f32 0x3F800000#32)) (broadcast S256x2048 (Scalar.ofBits (F := Ideal) .f32 0x00000000#32))

/-- The one-hot row holds one at the neighbour and zero elsewhere. -/
theorem onehot_at (v8 : IVec S256x20 32) (k : Fin 20) (r : Fin 256) (p : Fin 2048) (h : v8 (ix2 r k) = BitVec.ofNat 32 p) (q : Fin 2048) :
    onehot v8 k (ix2 r q) = if q = p then (1 : EReal) else 0 := by
  obtain ⟨k, hk⟩ := k
  pointwise [onehot]
  have e : (⟨k % 20, Nat.mod_lt _ (by decide)⟩ : Fin 20) = ⟨k, hk⟩ := Fin.ext (Nat.mod_eq_of_lt hk)
  rw [e, h]
  unfold IntOp.cmpi Scalar.select
  simp only [ofNat_inj_small]
  by_cases h : q = p <;> simp [h]

/-- The product of a one-hot row with a column picks the neighbour's entry. -/
theorem onehot_sum (v8 : IVec S256x20 32) (k : Fin 20) (r : Fin 256) (p : Fin 2048) (h : v8 (ix2 r k) = BitVec.ofNat 32 p)
    (f : Fin 2048 → EReal) : ∑ q, onehot v8 k (ix2 r q) * f q = f p := by
  simp only [onehot_at v8 k r p h, ite_mul, one_mul, zero_mul, Finset.sum_ite_eq', Finset.mem_univ, if_true]

/-- The block's edge products with its `k`-th neighbours. -/
def prod8 (v1 : FVec Ideal S2048x8 .f32) (v3 : FVec Ideal S256x8 .f32) (v6 : FVec Ideal S16x64 .bf16) (v8 : IVec S256x20 32) (k : ℕ) :
    FVec Ideal S256x64 .f32 :=
  matmul dot_S256x16_S16x64_S256x64_1_0_0_1_n_n none (truncf .bf16 (concatenate S256x16 1
    [⟨S256x8, subf (matmul dot_S256x2048_S2048x8_S256x8_1_0_0_1_n_n (some .fp32) (onehot v8 k) v1 (constant S256x8 .f32 0x00000000#32)) v3⟩,
      ⟨S256x8, v3⟩] concatenates_S256x8_S256x8_S256x16_d1) bitsLt_bf16_f32) v6 (constant S256x64 .f32 0x00000000#32)

/-- One neighbour's product of the first edge call, at a row and an output channel, is the edge product of the given reals. -/
theorem prod8_at (X : Fin 8 → Fin 2048 → Fin 8 → ℝ) (N : Fin 8 → Fin 2048 → Fin 20 → Fin 2048) (U W : Fin 8 → Fin 64 → ℝ)
    (v1 : FVec Ideal S2048x8 .f32) (v3 : FVec Ideal S256x8 .f32) (v6 : FVec Ideal S16x64 .bf16) (v8 : IVec S256x20 32)
    (b : Fin 8) (i : Fin 2048) (r : Fin 256) (h1 : ∀ q ch, v1 (ix2 q ch) = (X b q ch : EReal)) (h3 : ∀ ch, v3 (ix2 r ch) = (X b i ch : EReal))
    (hU : ∀ (ch : Fin 8) o, v6 (ix2 ⟨ch.val, by omega⟩ o) = (U ch o : EReal)) (hW : ∀ (ch : Fin 8) o, v6 (ix2 ⟨8 + ch.val, by omega⟩ o) = (W ch o : EReal))
    (h8 : ∀ k, v8 (ix2 r k) = BitVec.ofNat 32 (N b i k)) (k : Fin 20) (o : Fin 64) :
    prod8 v1 v3 v6 v8 k (ix2 r o) = (edge X N U W b i k o : EReal) := by
  pointwise [prod8]
  simp only [onehot_sum v8 k r _ (h8 k), hU, hW, h3, h1, ← EReal.coe_sub, ← EReal.coe_mul, sum_coe, ← EReal.coe_add]
  rfl

/-- A block's column sums, as a row. -/
def colSum (v : FVec Ideal S256x64 .f32) : FVec Ideal S1x64 .f32 :=
  shapeCast S1x64 (multiReduction .add [0] S64 v 0x00000000#32 reduces_S256x64_S64 (.inl rfl) rfl) shapeCasts_S64_S1x64

/-- What a grid point adds to the statistics: the sums, the sums of squares, and rows of zeros. -/
def statRows (p : ℕ → FVec Ideal S256x64 .f32) : FVec Ideal S8x64 .f32 :=
  concatenate S8x64 0 [⟨S1x64, colSum (chain addf p 19)⟩, ⟨S1x64, colSum (chain addf (fun k => mulf (p k) (p k)) 19)⟩,
    ⟨S6x64, broadcast S6x64 (Scalar.ofBits (F := Ideal) .f32 0x00000000#32)⟩] concatenates_S1x64_S1x64_S6x64_S8x64_d0

section
variable (c : Dev nD) (i : grid1.Coords) (a1 : Memref sig .tc .vmem S1x2048x8 .f32) (b1 : a1.IsWhole) (a2 : Memref sig .tc .vmem S1x256x8 .f32) (b2 : a2.IsWhole)
  (a3 : Memref sig .tc .vmem S1x256x20 .i32) (b3 : a3.IsWhole) (a4 : Memref sig .tc .vmem S16x64 .f32) (b4 : a4.IsWhole)
  (a5 : Memref sig .tc .vmem S1x256x64 .f32) (b5 : a5.IsWhole) (a6 : Memref sig .tc .vmem S1x256x64 .f32) (b6 : a6.IsWhole)
  (a7 : Memref sig .tc .vmem S8x64 .f32) (b7 : a7.IsWhole)
  (x0 : Vec Ideal S1x2048x8 .f32) (x1 : Vec Ideal S1x256x8 .f32) (x2 : Vec Ideal S1x256x20 .i32) (x3 : Vec Ideal S16x64 .f32) (d : Vec Ideal S8x64 .f32)

/-- The products of a grid point from its input blocks. -/
def prods1 : ℕ → FVec Ideal S256x64 .f32 := prod8 (k1_pay3 x0) (k1_pay4 x1) (k1_pay5 x3) (k1_pay6 x2)

/-- The greatest products over the neighbours that the first edge call stores at the first grid step. -/
theorem out1_A_4_eq (h) : out1_A_4 (F := Ideal) c i a1 b1 a2 b2 a3 b3 a4 b4 a5 b5 a6 b6 a7 b7 h x0 x1 x2 x3
    = shapeCast S1x256x64 (chain maximumf (prods1 x0 x1 x2 x3) 19) shapeCasts_S256x64_S1x256x64 := by
  frame_out
  rfl

/-- The least products over the neighbours that the first edge call stores at the first grid step. -/
theorem out1_A_5_eq (h) : out1_A_5 (F := Ideal) c i a1 b1 a2 b2 a3 b3 a4 b4 a5 b5 a6 b6 a7 b7 h x0 x1 x2 x3
    = shapeCast S1x256x64 (chain minimumf (prods1 x0 x1 x2 x3) 19) shapeCasts_S256x64_S1x256x64 := by
  frame_out
  rfl

/-- The greatest products over the neighbours that the first edge call stores at a later grid step. -/
theorem out1_B_4_eq (h) : out1_B_4 (F := Ideal) c i a1 b1 a2 b2 a3 b3 a4 b4 a5 b5 a6 b6 a7 b7 h x0 x1 x2 x3 d
    = shapeCast S1x256x64 (chain maximumf (prods1 x0 x1 x2 x3) 19) shapeCasts_S256x64_S1x256x64 := by
  frame_out
  rfl

/-- The least products over the neighbours that the first edge call stores at a later grid step. -/
theorem out1_B_5_eq (h) : out1_B_5 (F := Ideal) c i a1 b1 a2 b2 a3 b3 a4 b4 a5 b5 a6 b6 a7 b7 h x0 x1 x2 x3 d
    = shapeCast S1x256x64 (chain minimumf (prods1 x0 x1 x2 x3) 19) shapeCasts_S256x64_S1x256x64 := by
  frame_out
  rfl

/-- The statistics that the first edge call stores at a later grid step. -/
theorem out1_B_6_eq (h) : out1_B_6 (F := Ideal) c i a1 b1 a2 b2 a3 b3 a4 b4 a5 b5 a6 b6 a7 b7 h x0 x1 x2 x3 d
    = addf (shapeCast S8x64 d shapeCasts_S8x64_S8x64) (statRows (prods1 x0 x1 x2 x3)) := by
  frame_out
  rfl

/-- The statistics that the first edge call stores at the first grid step. -/
theorem out1_A_6_eq (h) : out1_A_6 (F := Ideal) c i a1 b1 a2 b2 a3 b3 a4 b4 a5 b5 a6 b6 a7 b7 h x0 x1 x2 x3
    = addf (shapeCast S8x64 (k1_pay1 (F := Ideal)) shapeCasts_S8x64_S8x64) (statRows (prods1 x0 x1 x2 x3)) := by
  frame_out
  rfl

end

end Cert.Proof

end

end
-- ==== Proof.Edge4.lean ====
module

public import proofs.«01_k».proof.Proof.Edge1
public import proofs.«01_k».proof.Proof.Gen.KernelIdeal.Frame

/-! The second edge call at one grid point: the edge products of a block of points with its twenty neighbours. -/

@[expose] public section

set_option maxRecDepth 16384

noncomputable section

namespace Cert.Proof

open Idealize.ShloMosaic Idealize.ShloMosaic.TcCoe Cert.KernelIdeal Cert.KernelIdeal.Gen

/-- The block's edge products with its `k`-th neighbours. -/
def prod64 (v1 : FVec Ideal S2048x64 .f32) (v3 : FVec Ideal S256x64 .f32) (v6 : FVec Ideal S128x64 .bf16) (v8 : IVec S256x20 32) (k : ℕ) :
    FVec Ideal S256x64 .f32 :=
  matmul dot_S256x128_S128x64_S256x64_1_0_0_1_n_n none (truncf .bf16 (concatenate S256x128 1
    [⟨S256x64, subf (matmul dot_S256x2048_S2048x64_S256x64_1_0_0_1_n_n (some .fp32) (onehot v8 k) v1 (constant S256x64 .f32 0x00000000#32)) v3⟩,
      ⟨S256x64, v3⟩] concatenates_S256x64_S256x64_S256x128_d1) bitsLt_bf16_f32) v6 (constant S256x64 .f32 0x00000000#32)

/-- One neighbour's product of the second edge call, at a row and an output channel, is the edge product of the given reals. -/
theorem prod64_at (X : Fin 8 → Fin 2048 → Fin 64 → ℝ) (N : Fin 8 → Fin 2048 → Fin 20 → Fin 2048) (U W : Fin 64 → Fin 64 → ℝ)
    (v1 : FVec Ideal S2048x64 .f32) (v3 : FVec Ideal S256x64 .f32) (v6 : FVec Ideal S128x64 .bf16) (v8 : IVec S256x20 32)
    (b : Fin 8) (i : Fin 2048) (r : Fin 256) (h1 : ∀ q ch, v1 (ix2 q ch) = (X b q ch : EReal)) (h3 : ∀ ch, v3 (ix2 r ch) = (X b i ch : EReal))
    (hU : ∀ (ch : Fin 64) o, v6 (ix2 ⟨ch.val, by omega⟩ o) = (U ch o : EReal)) (hW : ∀ (ch : Fin 64) o, v6 (ix2 ⟨64 + ch.val, by omega⟩ o) = (W ch o : EReal))
    (h8 : ∀ k, v8 (ix2 r k) = BitVec.ofNat 32 (N b i k)) (k : Fin 20) (o : Fin 64) :
    prod64 v1 v3 v6 v8 k (ix2 r o) = (edge X N U W b i k o : EReal) := by
  pointwise [prod64]
  simp only [onehot_sum v8 k r _ (h8 k), hU, hW, h3, h1, ← EReal.coe_sub, ← EReal.coe_mul, sum_coe, ← EReal.coe_add]
  rfl

section
variable (c : Dev nD) (i : grid4.Coords) (a1 : Memref sig .tc .vmem S1x2048x64 .f32) (b1 : a1.IsWhole) (a2 : Memref sig .tc .vmem S1x256x64 .f32) (b2 : a2.IsWhole)
  (a3 : Memref sig .tc .vmem S1x256x20 .i32) (b3 : a3.IsWhole) (a4 : Memref sig .tc .vmem S128x64 .f32) (b4 : a4.IsWhole)
  (a5 : Memref sig .tc .vmem S1x256x64 .f32) (b5 : a5.IsWhole) (a6 : Memref sig .tc .vmem S1x256x64 .f32) (b6 : a6.IsWhole)
  (a7 : Memref sig .tc .vmem S8x64 .f32) (b7 : a7.IsWhole)
  (x0 : Vec Ideal S1x2048x64 .f32) (x1 : Vec Ideal S1x256x64 .f32) (x2 : Vec Ideal S1x256x20 .i32) (x3 : Vec Ideal S128x64 .f32) (d : Vec Ideal S8x64 .f32)

/-- The products of a grid point from its input blocks. -/
def prods4 : ℕ → FVec Ideal S256x64 .f32 := prod64 (k4_pay3 x0) (k4_pay4 x1) (k4_pay5 x3) (k4_pay6 x2)

/-- The greatest products over the neighbours that the second edge call stores at the first grid step. -/
theorem out4_A_4_eq (h) : out4_A_4 (F := Ideal) c i a1 b1 a2 b2 a3 b3 a4 b4 a5 b5 a6 b6 a7 b7 h x0 x1 x2 x3
    = shapeCast S1x256x64 (chain maximumf (prods4 x0 x1 x2 x3) 19) shapeCasts_S256x64_S1x256x64 := by
  frame_out
  rfl

/-- The least products over the neighbours that the second edge call stores at the first grid step. -/
theorem out4_A_5_eq (h) : out4_A_5 (F := Ideal) c i a1 b1 a2 b2 a3 b3 a4 b4 a5 b5 a6 b6 a7 b7 h x0 x1 x2 x3
    = shapeCast S1x256x64 (chain minimumf (prods4 x0 x1 x2 x3) 19) shapeCasts_S256x64_S1x256x64 := by
  frame_out
  rfl

/-- The greatest products over the neighbours that the second edge call stores at a later grid step. -/
theorem out4_B_4_eq (h) : out4_B_4 (F := Ideal) c i a1 b1 a2 b2 a3 b3 a4 b4 a5 b5 a6 b6 a7 b7 h x0 x1 x2 x3 d
    = shapeCast S1x256x64 (chain maximumf (prods4 x0 x1 x2 x3) 19) shapeCasts_S256x64_S1x256x64 := by
  frame_out
  rfl

/-- The least products over the neighbours that the second edge call stores at a later grid step. -/
theorem out4_B_5_eq (h) : out4_B_5 (F := Ideal) c i a1 b1 a2 b2 a3 b3 a4 b4 a5 b5 a6 b6 a7 b7 h x0 x1 x2 x3 d
    = shapeCast S1x256x64 (chain minimumf (prods4 x0 x1 x2 x3) 19) shapeCasts_S256x64_S1x256x64 := by
  frame_out
  rfl

/-- The statistics that the second edge call stores at a later grid step. -/
theorem out4_B_6_eq (h) : out4_B_6 (F := Ideal) c i a1 b1 a2 b2 a3 b3 a4 b4 a5 b5 a6 b6 a7 b7 h x0 x1 x2 x3 d
    = addf (shapeCast S8x64 d shapeCasts_S8x64_S8x64) (statRows (prods4 x0 x1 x2 x3)) := by
  frame_out
  rfl

/-- The statistics that the second edge call stores at the first grid step. -/
theorem out4_A_6_eq (h) : out4_A_6 (F := Ideal) c i a1 b1 a2 b2 a3 b3 a4 b4 a5 b5 a6 b6 a7 b7 h x0 x1 x2 x3
    = addf (shapeCast S8x64 (k4_pay1 (F := Ideal)) shapeCasts_S8x64_S8x64) (statRows (prods4 x0 x1 x2 x3)) := by
  frame_out
  rfl

end

end Cert.Proof

end

end
-- ==== Proof.Region1.lean ====
module

public import proofs.«01_k».proof.Proof.Edge1

/-! The first edge call: its maxima, minima and statistics after it. -/

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- A channel indexes the upper half of the sixteen weight rows. -/
theorem lt16 (ch : Fin 8) : ch.val < 16 := by omega

/-- A channel indexes the lower half of the sixteen weight rows. -/
theorem add_lt16 (ch : Fin 8) : 8 + ch.val < 16 := by omega

/-- The blocks that the windows of the first edge call stand at, at each grid step. -/
theorem idx1 : ∀ t : Fin cfg1.N, win1_0.index t = ![t.val / 8, 0, 0] ∧ win1_1.index t = ![t.val / 8, t.val % 8, 0]
    ∧ win1_2.index t = ![t.val / 8, t.val % 8, 0] ∧ win1_3.index t = ![0, 0] ∧ win1_4.index t = ![t.val / 8, t.val % 8, 0]
    ∧ win1_5.index t = ![t.val / 8, t.val % 8, 0] ∧ win1_6.index t = ![0, 0] :=
  (by decide +kernel : ∀ t : Fin grid1.N, _)

/-- A row of the statistics a grid point adds: the sums of the products, then of their squares. -/
theorem statRows_0 (p : ℕ → FVec Ideal S256x64 .f32) (y : Fin 256 → Fin 20 → Fin 64 → ℝ)
    (h : ∀ r (k : Fin 20) o, p k (ix2 r o) = (y r k o : EReal)) (o : Fin 64) :
    statRows p (ix2 0 o) = ((∑ r, ∑ k, y r k o : ℝ) : EReal) := by
  have e : ∀ r, chain addf p 19 (ix2 r o) = _ := fun r => chainAdd_at p (ix2 r o) (fun k => y r k o) fun k => h r k o
  unfold statRows
  generalize chain addf p 19 = u at e ⊢
  generalize chain addf (fun k => mulf (p k) (p k)) 19 = w
  pointwise [colSum]
  simp only [e, sum_coe]

/-- The second statistics row of a tile is the sum of the squared products. -/
theorem statRows_1 (p : ℕ → FVec Ideal S256x64 .f32) (y : Fin 256 → Fin 20 → Fin 64 → ℝ)
    (h : ∀ r (k : Fin 20) o, p k (ix2 r o) = (y r k o : EReal)) (o : Fin 64) :
    statRows p (ix2 1 o) = ((∑ r, ∑ k, y r k o * y r k o : ℝ) : EReal) := by
  have e : ∀ r, chain addf (fun k => mulf (p k) (p k)) 19 (ix2 r o) = _ := fun r =>
    chainAdd_at (fun k => mulf (p k) (p k)) (ix2 r o) (fun k => y r k o * y r k o) fun k => by
      change p k (ix2 r o) * p k (ix2 r o) = _
      rw [h, EReal.coe_mul]
  unfold statRows
  generalize chain addf p 19 = u
  generalize chain addf (fun k => mulf (p k) (p k)) 19 = w at e ⊢
  pointwise [colSum]
  simp only [e, sum_coe]

variable (V : (c : Dev nD) → (b : Ref sig .tc) → Buf (Elt Ideal) ((c : Thread nD τ).loc b))

/-- What the first edge call reads through window 0: the points. -/
theorem read1_0 (c : Dev nD) (t : Fin cfg1.N) (b : Fin 8) (q : Fin 2048) (ch : Fin 8) (hb : b.val = t.val / 8) :
    iblk1 V c 0 t (ix3 0 q ch) = V c main_v1 (ix3 b q ch) := by
  blk_ext [iblk1, idx1 t]

/-- What the first edge call reads through window 1: the tile of points. -/
theorem read1_1 (c : Dev nD) (t : Fin cfg1.N) (b : Fin 8) (i : Fin 2048) (r : Fin 256) (ch : Fin 8) (hb : b.val = t.val / 8)
    (hi : i.val = t.val % 8 * 256 + r.val) : iblk1 V c 1 t (ix3 0 r ch) = V c main_v1 (ix3 b i ch) := by
  blk_ext [iblk1, idx1 t]

/-- What the first edge call reads through window 2: the neighbour indices. -/
theorem read1_2 (c : Dev nD) (t : Fin cfg1.N) (b : Fin 8) (i : Fin 2048) (r : Fin 256) (k : Fin 20) (hb : b.val = t.val / 8)
    (hi : i.val = t.val % 8 * 256 + r.val) : iblk1 V c 2 t (ix3 0 r k) = V c main_v9 (ix3 b i k) := by
  blk_ext [iblk1, idx1 t]

/-- What the first edge call reads through window 3: the weights. -/
theorem read1_3 (c : Dev nD) (t : Fin cfg1.N) (a : Fin 16) (o : Fin 64) : iblk1 V c 3 t (ix2 a o) = V c main_v8 (ix2 a o) := by
  blk_ext [iblk1, idx1 t]

variable (c : Dev nD) (X : Fin 8 → Fin 2048 → Fin 8 → ℝ) (N : Fin 8 → Fin 2048 → Fin 20 → Fin 2048) (U W : Fin 8 → Fin 64 → ℝ)
  (hx : ∀ b i ch, V c main_v1 (ix3 b i ch) = (X b i ch : EReal)) (hn : ∀ b i k, V c main_v9 (ix3 b i k) = BitVec.ofNat 32 (N b i k))
  (hU : ∀ (ch : Fin 8) o, V c main_v8 (ix2 (⟨ch.val, lt16 ch⟩ : Fin 16) o) = (U ch o : EReal))
  (hW : ∀ (ch : Fin 8) o, V c main_v8 (ix2 (⟨8 + ch.val, add_lt16 ch⟩ : Fin 16) o) = (W ch o : EReal))
include hx hn hU hW

/-- The product that the first edge call forms for a tile's row and a neighbour is the edge product of the given reals. -/
theorem prods1_at (t : Fin cfg1.N) (b : Fin 8) (i : Fin 2048) (r : Fin 256) (hb : b.val = t.val / 8) (hi : i.val = t.val % 8 * 256 + r.val)
    (k : Fin 20) (o : Fin 64) :
    prods1 (iblk1 V c 0 t) (iblk1 V c 1 t) (iblk1 V c 2 t) (iblk1 V c 3 t) k (ix2 r o) = (edge X N U W b i k o : EReal) := by
  have e0 := fun q ch => (read1_0 V c t b q ch hb).trans (hx b q ch)
  have e1 := fun ch => (read1_1 V c t b i r ch hb hi).trans (hx b i ch)
  have e2 := fun k => (read1_2 V c t b i r k hb hi).trans (hn b i k)
  have e3 := read1_3 V c t
  generalize iblk1 V c 0 t = x0 at e0 ⊢
  generalize iblk1 V c 1 t = x1 at e1 ⊢
  generalize iblk1 V c 2 t = x2 at e2 ⊢
  generalize iblk1 V c 3 t = x3 at e3 ⊢
  refine prod8_at X N U W _ _ _ _ b i r (fun q ch => ?_) (fun ch => ?_) (fun ch o => ?_) (fun ch o => ?_) (fun k => ?_) k o
  · rw [← e0]; pointwise [k1_pay3]
  · rw [← e1]; pointwise [k1_pay4]
  · rw [← hU, ← e3]; pointwise [k1_pay5]
  · rw [← hW, ← e3]; pointwise [k1_pay5]
  · rw [← e2]; pointwise [k1_pay6]

/-- What the first edge call stores at a grid step: the block of greatest products over the neighbours. -/
theorem block1_4 (t : Fin cfg1.N) (b : Fin 8) (i : Fin 2048) (r : Fin 256) (o o' : Fin 64)
    (hb : b.val = t.val / 8 + (0 : Fin 1).val) (hi : i.val = t.val % 8 * 256 + r.val) (ho : o'.val = o.val) :
    shapeCast S1x256x64 (chain maximumf (prods1 (iblk1 V c 0 t) (iblk1 V c 1 t) (iblk1 V c 2 t) (iblk1 V c 3 t)) 19) shapeCasts_S256x64_S1x256x64
      (ix3 0 r o) = (maxOf (fun k => edge X N U W b i k o') : EReal) := by
  obtain rfl : o' = o := Fin.ext ho
  rw [← chainMax_at _ (ix2 r o') _ fun k => prods1_at V c X N U W hx hn hU hW t b i r hb hi k o']
  generalize chain (α := FVec Ideal S256x64 .f32) maximumf _ 19 = u
  pointwise

/-- What the first edge call stores at a grid step: the block of least products over the neighbours. -/
theorem block1_5 (t : Fin cfg1.N) (b : Fin 8) (i : Fin 2048) (r : Fin 256) (o o' : Fin 64)
    (hb : b.val = t.val / 8 + (0 : Fin 1).val) (hi : i.val = t.val % 8 * 256 + r.val) (ho : o'.val = o.val) :
    shapeCast S1x256x64 (chain minimumf (prods1 (iblk1 V c 0 t) (iblk1 V c 1 t) (iblk1 V c 2 t) (iblk1 V c 3 t)) 19) shapeCasts_S256x64_S1x256x64
      (ix3 0 r o) = (minOf (fun k => edge X N U W b i k o') : EReal) := by
  obtain rfl : o' = o := Fin.ext ho
  rw [← chainMin_at _ (ix2 r o') _ fun k => prods1_at V c X N U W hx hn hU hW t b i r hb hi k o']
  generalize chain (α := FVec Ideal S256x64 .f32) minimumf _ 19 = u
  pointwise

/-- The maxima over the neighbours after the first edge call. -/
theorem arr1_4 : (dat1 V c).arrAt 4 cfg1.N = fun j : S8x2048x64.Idx => (maxOf (fun k => edge X N U W (j 0) (j 1) k (j 2)) : EReal) := by
  refine (dat1 V c).arrAt_eq_of_covers 4 _ (by decide +kernel) fun t _ y => ?_
  blk_simp
  generalize hj : ((cfg1.win 4).blk t).view.emb y = j
  have h0 : (j 0 : ℕ) = t.val / 8 + (y 0).val := by rw [← hj]; blk_simp [idx1 t]
  have h1 : (j 1 : ℕ) = t.val % 8 * 256 + (y 1).val := by rw [← hj]; blk_simp [idx1 t]
  have h2 : (j 2 : ℕ) = (y 2).val := by rw [← hj]; blk_simp [idx1 t]
  have hy : y = ix3 0 (y 1) (y 2) := by blk_ext
  have hy0 : (y 0).val = 0 := by rw [hy]; rfl
  have e : (outsAt1 V c t.val t.isLt).1 = shapeCast S1x256x64 (chain maximumf (prods1 (iblk1 V c 0 t) (iblk1 V c 1 t) (iblk1 V c 2 t) (iblk1 V c 3 t)) 19)
      shapeCasts_S256x64_S1x256x64 := by
    by_cases h : t.val % 64 = 0
    · rw [outsAt1_A V c t h, out1_A_4_eq]
    · rw [outsAt1_B V c t h, out1_B_4_eq]
  rw [after1_4, e, hy]
  exact block1_4 V c X N U W hx hn hU hW t (j 0) (j 1) (y 1) (y 2) (j 2) (h0.trans (congrArg _ hy0)) h1 h2

/-- The minima over the neighbours after the first edge call. -/
theorem arr1_5 : (dat1 V c).arrAt 5 cfg1.N = fun j : S8x2048x64.Idx => (minOf (fun k => edge X N U W (j 0) (j 1) k (j 2)) : EReal) := by
  refine (dat1 V c).arrAt_eq_of_covers 5 _ (by decide +kernel) fun t _ y => ?_
  blk_simp
  generalize hj : ((cfg1.win 5).blk t).view.emb y = j
  have h0 : (j 0 : ℕ) = t.val / 8 + (y 0).val := by rw [← hj]; blk_simp [idx1 t]
  have h1 : (j 1 : ℕ) = t.val % 8 * 256 + (y 1).val := by rw [← hj]; blk_simp [idx1 t]
  have h2 : (j 2 : ℕ) = (y 2).val := by rw [← hj]; blk_simp [idx1 t]
  have hy : y = ix3 0 (y 1) (y 2) := by blk_ext
  have hy0 : (y 0).val = 0 := by rw [hy]; rfl
  have e : (outsAt1 V c t.val t.isLt).2.1 = shapeCast S1x256x64 (chain minimumf (prods1 (iblk1 V c 0 t) (iblk1 V c 1 t) (iblk1 V c 2 t) (iblk1 V c 3 t)) 19)
      shapeCasts_S256x64_S1x256x64 := by
    by_cases h : t.val % 64 = 0
    · rw [outsAt1_A V c t h, out1_A_5_eq]
    · rw [outsAt1_B V c t h, out1_B_5_eq]
  rw [after1_5, e, hy]
  exact block1_5 V c X N U W hx hn hU hW t (j 0) (j 1) (y 1) (y 2) (j 2) (h0.trans (congrArg _ hy0)) h1 h2

omit hx hn hU hW in
/-- The statistics after the first edge call, as a sum over the grid points. -/
theorem arr1_6 : (dat1 V c).arrAt 6 cfg1.N = fun j : S8x64.Idx =>
    ∑ t : Fin cfg1.N, statRows (prods1 (iblk1 V c 0 t) (iblk1 V c 1 t) (iblk1 V c 2 t) (iblk1 V c 3 t)) j := by
  refine (dat1 V c).arrAt_eq_of_covers 6 _ (by decide +kernel) fun t hf y => ?_
  blk_simp
  generalize hj : ((cfg1.win 6).blk t).view.emb y = j
  have hjy : j = y := by rw [← hj]; blk_ext [idx1 t]
  have hN : cfg1.N = 64 := rfl
  rw [hjy, after1_6, Pipeline.eq_sum_fin_of_reset_step_apply_last (fun n h => (outsAt1 V c n h).2.2) 64 (fun _ => (0 : EReal))
    (fun t j => statRows (prods1 (iblk1 V c 0 t) (iblk1 V c 1 t) (iblk1 V c 2 t) (iblk1 V c 3 t)) j)
    (fun t h j => by rw [outsAt1_A V c t h, out1_A_6_eq]; pointwise [k1_pay1])
    (fun t h j => by rw [outsAt1_B V c t h, out1_B_6_eq]; pointwise)
    (le_of_eq hN) t (by have := (flush1_6 t).mp hf; have := t.isLt; omega) y, zero_add]

/-- The first edge call's statistics over all grid steps: the sum of the products of a channel. -/
theorem stats1_0 (o : Fin 64) : (∑ t : Fin cfg1.N, statRows (prods1 (iblk1 V c 0 t) (iblk1 V c 1 t) (iblk1 V c 2 t) (iblk1 V c 3 t)) (ix2 0 o) : EReal)
    = ((∑ b, ∑ i, ∑ k, edge X N U W b i k o : ℝ) : EReal) := by
  have hN : cfg1.N = 64 := rfl
  have e : ∀ t : Fin cfg1.N, statRows (prods1 (iblk1 V c 0 t) (iblk1 V c 1 t) (iblk1 V c 2 t) (iblk1 V c 3 t)) (ix2 0 o)
      = ((∑ r : Fin 256, ∑ k, edge X N U W ⟨t.val / 8, by omega⟩ ⟨t.val % 8 * 256 + r.val, by omega⟩ k o : ℝ) : EReal) := fun t =>
    statRows_0 _ (fun r k o => edge X N U W ⟨t.val / 8, by omega⟩ ⟨t.val % 8 * 256 + r.val, by omega⟩ k o)
      (fun r k o => prods1_at V c X N U W hx hn hU hW t _ _ r rfl rfl k o) o
  rw [Finset.sum_congr rfl fun t _ => e t, sum_coe]
  exact congrArg _ (Fin.sum_points_lanes_congr 8 fun t r ha hl => rfl)

/-- The first edge call's statistics over all grid steps: the sum of the squares of a channel. -/
theorem stats1_1 (o : Fin 64) : (∑ t : Fin cfg1.N, statRows (prods1 (iblk1 V c 0 t) (iblk1 V c 1 t) (iblk1 V c 2 t) (iblk1 V c 3 t)) (ix2 1 o) : EReal)
    = ((∑ b, ∑ i, ∑ k, edge X N U W b i k o * edge X N U W b i k o : ℝ) : EReal) := by
  have hN : cfg1.N = 64 := rfl
  have e : ∀ t : Fin cfg1.N, statRows (prods1 (iblk1 V c 0 t) (iblk1 V c 1 t) (iblk1 V c 2 t) (iblk1 V c 3 t)) (ix2 1 o)
      = ((∑ r : Fin 256, ∑ k, edge X N U W ⟨t.val / 8, by omega⟩ ⟨t.val % 8 * 256 + r.val, by omega⟩ k o
          * edge X N U W ⟨t.val / 8, by omega⟩ ⟨t.val % 8 * 256 + r.val, by omega⟩ k o : ℝ) : EReal) := fun t =>
    statRows_1 _ (fun r k o => edge X N U W ⟨t.val / 8, by omega⟩ ⟨t.val % 8 * 256 + r.val, by omega⟩ k o)
      (fun r k o => prods1_at V c X N U W hx hn hU hW t _ _ r rfl rfl k o) o
  rw [Finset.sum_congr rfl fun t _ => e t, sum_coe]
  exact congrArg _ (Fin.sum_points_lanes_congr 8 fun t r ha hl => rfl)

end Cert.Proof

end

end
-- ==== Proof.Region4.lean ====
module

public import proofs.«01_k».proof.Proof.Edge4
public import proofs.«01_k».proof.Proof.Region1

/-! The second edge call: its maxima, minima and statistics after it. -/

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- A channel indexes the upper half of the weight rows. -/
theorem lt128 (ch : Fin 64) : ch.val < 128 := by omega

/-- A channel indexes the lower half of the weight rows. -/
theorem add_lt128 (ch : Fin 64) : 64 + ch.val < 128 := by omega

/-- The blocks that the windows of the second edge call stand at, at each grid step. -/
theorem idx4 : ∀ t : Fin cfg4.N, win4_0.index t = ![t.val / 8, 0, 0] ∧ win4_1.index t = ![t.val / 8, t.val % 8, 0]
    ∧ win4_2.index t = ![t.val / 8, t.val % 8, 0] ∧ win4_3.index t = ![0, 0] ∧ win4_4.index t = ![t.val / 8, t.val % 8, 0]
    ∧ win4_5.index t = ![t.val / 8, t.val % 8, 0] ∧ win4_6.index t = ![0, 0] :=
  (by decide +kernel : ∀ t : Fin grid4.N, _)

variable (V : (c : Dev nD) → (b : Ref sig .tc) → Buf (Elt Ideal) ((c : Thread nD τ).loc b))

/-- What the second edge call reads through window 0: the features. -/
theorem read4_0 (c : Dev nD) (t : Fin cfg4.N) (b : Fin 8) (q : Fin 2048) (ch : Fin 64) (hb : b.val = t.val / 8) :
    iblk4 V c 0 t (ix3 0 q ch) = V c main_v29 (ix3 b q ch) := by
  blk_ext [iblk4, idx4 t]

/-- What the second edge call reads through window 1: the tile of features. -/
theorem read4_1 (c : Dev nD) (t : Fin cfg4.N) (b : Fin 8) (i : Fin 2048) (r : Fin 256) (ch : Fin 64) (hb : b.val = t.val / 8)
    (hi : i.val = t.val % 8 * 256 + r.val) : iblk4 V c 1 t (ix3 0 r ch) = V c main_v29 (ix3 b i ch) := by
  blk_ext [iblk4, idx4 t]

/-- What the second edge call reads through window 2: the neighbour indices. -/
theorem read4_2 (c : Dev nD) (t : Fin cfg4.N) (b : Fin 8) (i : Fin 2048) (r : Fin 256) (k : Fin 20) (hb : b.val = t.val / 8)
    (hi : i.val = t.val % 8 * 256 + r.val) : iblk4 V c 2 t (ix3 0 r k) = V c main_v32 (ix3 b i k) := by
  blk_ext [iblk4, idx4 t]

/-- What the second edge call reads through window 3: the weights. -/
theorem read4_3 (c : Dev nD) (t : Fin cfg4.N) (a : Fin 128) (o : Fin 64) : iblk4 V c 3 t (ix2 a o) = V c main_v31 (ix2 a o) := by
  blk_ext [iblk4, idx4 t]

variable (c : Dev nD) (X : Fin 8 → Fin 2048 → Fin 64 → ℝ) (N : Fin 8 → Fin 2048 → Fin 20 → Fin 2048) (U W : Fin 64 → Fin 64 → ℝ)
  (hx : ∀ b i ch, V c main_v29 (ix3 b i ch) = (X b i ch : EReal)) (hn : ∀ b i k, V c main_v32 (ix3 b i k) = BitVec.ofNat 32 (N b i k))
  (hU : ∀ (ch : Fin 64) o, V c main_v31 (ix2 (⟨ch.val, lt128 ch⟩ : Fin 128) o) = (U ch o : EReal))
  (hW : ∀ (ch : Fin 64) o, V c main_v31 (ix2 (⟨64 + ch.val, add_lt128 ch⟩ : Fin 128) o) = (W ch o : EReal))
include hx hn hU hW

/-- The product that the second edge call forms for a tile's row and a neighbour is the edge product of the given reals. -/
theorem prods4_at (t : Fin cfg4.N) (b : Fin 8) (i : Fin 2048) (r : Fin 256) (hb : b.val = t.val / 8) (hi : i.val = t.val % 8 * 256 + r.val)
    (k : Fin 20) (o : Fin 64) :
    prods4 (iblk4 V c 0 t) (iblk4 V c 1 t) (iblk4 V c 2 t) (iblk4 V c 3 t) k (ix2 r o) = (edge X N U W b i k o : EReal) := by
  have e0 := fun q ch => (read4_0 V c t b q ch hb).trans (hx b q ch)
  have e1 := fun ch => (read4_1 V c t b i r ch hb hi).trans (hx b i ch)
  have e2 := fun k => (read4_2 V c t b i r k hb hi).trans (hn b i k)
  have e3 := read4_3 V c t
  generalize iblk4 V c 0 t = x0 at e0 ⊢
  generalize iblk4 V c 1 t = x1 at e1 ⊢
  generalize iblk4 V c 2 t = x2 at e2 ⊢
  generalize iblk4 V c 3 t = x3 at e3 ⊢
  refine prod64_at X N U W _ _ _ _ b i r (fun q ch => ?_) (fun ch => ?_) (fun ch o => ?_) (fun ch o => ?_) (fun k => ?_) k o
  · rw [← e0]; pointwise [k4_pay3]
  · rw [← e1]; pointwise [k4_pay4]
  · rw [← hU, ← e3]; pointwise [k4_pay5]
  · rw [← hW, ← e3]; pointwise [k4_pay5]
  · rw [← e2]; pointwise [k4_pay6]

/-- What the second edge call stores at a grid step: the block of greatest products over the neighbours. -/
theorem block4_4 (t : Fin cfg4.N) (b : Fin 8) (i : Fin 2048) (r : Fin 256) (o o' : Fin 64)
    (hb : b.val = t.val / 8 + (0 : Fin 1).val) (hi : i.val = t.val % 8 * 256 + r.val) (ho : o'.val = o.val) :
    shapeCast S1x256x64 (chain maximumf (prods4 (iblk4 V c 0 t) (iblk4 V c 1 t) (iblk4 V c 2 t) (iblk4 V c 3 t)) 19) shapeCasts_S256x64_S1x256x64
      (ix3 0 r o) = (maxOf (fun k => edge X N U W b i k o') : EReal) := by
  obtain rfl : o' = o := Fin.ext ho
  rw [← chainMax_at _ (ix2 r o') _ fun k => prods4_at V c X N U W hx hn hU hW t b i r hb hi k o']
  generalize chain (α := FVec Ideal S256x64 .f32) maximumf _ 19 = u
  pointwise

/-- What the second edge call stores at a grid step: the block of least products over the neighbours. -/
theorem block4_5 (t : Fin cfg4.N) (b : Fin 8) (i : Fin 2048) (r : Fin 256) (o o' : Fin 64)
    (hb : b.val = t.val / 8 + (0 : Fin 1).val) (hi : i.val = t.val % 8 * 256 + r.val) (ho : o'.val = o.val) :
    shapeCast S1x256x64 (chain minimumf (prods4 (iblk4 V c 0 t) (iblk4 V c 1 t) (iblk4 V c 2 t) (iblk4 V c 3 t)) 19) shapeCasts_S256x64_S1x256x64
      (ix3 0 r o) = (minOf (fun k => edge X N U W b i k o') : EReal) := by
  obtain rfl : o' = o := Fin.ext ho
  rw [← chainMin_at _ (ix2 r o') _ fun k => prods4_at V c X N U W hx hn hU hW t b i r hb hi k o']
  generalize chain (α := FVec Ideal S256x64 .f32) minimumf _ 19 = u
  pointwise

/-- The maxima over the neighbours after the second edge call. -/
theorem arr4_4 : (dat4 V c).arrAt 4 cfg4.N = fun j : S8x2048x64.Idx => (maxOf (fun k => edge X N U W (j 0) (j 1) k (j 2)) : EReal) := by
  refine (dat4 V c).arrAt_eq_of_covers 4 _ (by decide +kernel) fun t _ y => ?_
  blk_simp
  generalize hj : ((cfg4.win 4).blk t).view.emb y = j
  have h0 : (j 0 : ℕ) = t.val / 8 + (y 0).val := by rw [← hj]; blk_simp [idx4 t]
  have h1 : (j 1 : ℕ) = t.val % 8 * 256 + (y 1).val := by rw [← hj]; blk_simp [idx4 t]
  have h2 : (j 2 : ℕ) = (y 2).val := by rw [← hj]; blk_simp [idx4 t]
  have hy : y = ix3 0 (y 1) (y 2) := by blk_ext
  have hy0 : (y 0).val = 0 := by rw [hy]; rfl
  have e : (outsAt4 V c t.val t.isLt).1 = shapeCast S1x256x64 (chain maximumf (prods4 (iblk4 V c 0 t) (iblk4 V c 1 t) (iblk4 V c 2 t) (iblk4 V c 3 t)) 19)
      shapeCasts_S256x64_S1x256x64 := by
    by_cases h : t.val % 64 = 0
    · rw [outsAt4_A V c t h, out4_A_4_eq]
    · rw [outsAt4_B V c t h, out4_B_4_eq]
  rw [after4_4, e, hy]
  exact block4_4 V c X N U W hx hn hU hW t (j 0) (j 1) (y 1) (y 2) (j 2) (h0.trans (congrArg _ hy0)) h1 h2

/-- The minima over the neighbours after the second edge call. -/
theorem arr4_5 : (dat4 V c).arrAt 5 cfg4.N = fun j : S8x2048x64.Idx => (minOf (fun k => edge X N U W (j 0) (j 1) k (j 2)) : EReal) := by
  refine (dat4 V c).arrAt_eq_of_covers 5 _ (by decide +kernel) fun t _ y => ?_
  blk_simp
  generalize hj : ((cfg4.win 5).blk t).view.emb y = j
  have h0 : (j 0 : ℕ) = t.val / 8 + (y 0).val := by rw [← hj]; blk_simp [idx4 t]
  have h1 : (j 1 : ℕ) = t.val % 8 * 256 + (y 1).val := by rw [← hj]; blk_simp [idx4 t]
  have h2 : (j 2 : ℕ) = (y 2).val := by rw [← hj]; blk_simp [idx4 t]
  have hy : y = ix3 0 (y 1) (y 2) := by blk_ext
  have hy0 : (y 0).val = 0 := by rw [hy]; rfl
  have e : (outsAt4 V c t.val t.isLt).2.1 = shapeCast S1x256x64 (chain minimumf (prods4 (iblk4 V c 0 t) (iblk4 V c 1 t) (iblk4 V c 2 t) (iblk4 V c 3 t)) 19)
      shapeCasts_S256x64_S1x256x64 := by
    by_cases h : t.val % 64 = 0
    · rw [outsAt4_A V c t h, out4_A_5_eq]
    · rw [outsAt4_B V c t h, out4_B_5_eq]
  rw [after4_5, e, hy]
  exact block4_5 V c X N U W hx hn hU hW t (j 0) (j 1) (y 1) (y 2) (j 2) (h0.trans (congrArg _ hy0)) h1 h2

omit hx hn hU hW in
/-- The statistics after the second edge call, as a sum over the grid points. -/
theorem arr4_6 : (dat4 V c).arrAt 6 cfg4.N = fun j : S8x64.Idx =>
    ∑ t : Fin cfg4.N, statRows (prods4 (iblk4 V c 0 t) (iblk4 V c 1 t) (iblk4 V c 2 t) (iblk4 V c 3 t)) j := by
  refine (dat4 V c).arrAt_eq_of_covers 6 _ (by decide +kernel) fun t hf y => ?_
  blk_simp
  generalize hj : ((cfg4.win 6).blk t).view.emb y = j
  have hjy : j = y := by rw [← hj]; blk_ext [idx4 t]
  have hN : cfg4.N = 64 := rfl
  rw [hjy, after4_6, Pipeline.eq_sum_fin_of_reset_step_apply_last (fun n h => (outsAt4 V c n h).2.2) 64 (fun _ => (0 : EReal))
    (fun t j => statRows (prods4 (iblk4 V c 0 t) (iblk4 V c 1 t) (iblk4 V c 2 t) (iblk4 V c 3 t)) j)
    (fun t h j => by rw [outsAt4_A V c t h, out4_A_6_eq]; pointwise [k4_pay1])
    (fun t h j => by rw [outsAt4_B V c t h, out4_B_6_eq]; pointwise)
    (le_of_eq hN) t (by have := (flush4_6 t).mp hf; have := t.isLt; omega) y, zero_add]

/-- The second edge call's statistics over all grid steps: the sum of the products of a channel. -/
theorem stats4_0 (o : Fin 64) : (∑ t : Fin cfg4.N, statRows (prods4 (iblk4 V c 0 t) (iblk4 V c 1 t) (iblk4 V c 2 t) (iblk4 V c 3 t)) (ix2 0 o) : EReal)
    = ((∑ b, ∑ i, ∑ k, edge X N U W b i k o : ℝ) : EReal) := by
  have hN : cfg4.N = 64 := rfl
  have e : ∀ t : Fin cfg4.N, statRows (prods4 (iblk4 V c 0 t) (iblk4 V c 1 t) (iblk4 V c 2 t) (iblk4 V c 3 t)) (ix2 0 o)
      = ((∑ r : Fin 256, ∑ k, edge X N U W ⟨t.val / 8, by omega⟩ ⟨t.val % 8 * 256 + r.val, by omega⟩ k o : ℝ) : EReal) := fun t =>
    statRows_0 _ (fun r k o => edge X N U W ⟨t.val / 8, by omega⟩ ⟨t.val % 8 * 256 + r.val, by omega⟩ k o)
      (fun r k o => prods4_at V c X N U W hx hn hU hW t _ _ r rfl rfl k o) o
  rw [Finset.sum_congr rfl fun t _ => e t, sum_coe]
  exact congrArg _ (Fin.sum_points_lanes_congr 8 fun t r ha hl => rfl)

/-- The second edge call's statistics over all grid steps: the sum of the squares of a channel. -/
theorem stats4_1 (o : Fin 64) : (∑ t : Fin cfg4.N, statRows (prods4 (iblk4 V c 0 t) (iblk4 V c 1 t) (iblk4 V c 2 t) (iblk4 V c 3 t)) (ix2 1 o) : EReal)
    = ((∑ b, ∑ i, ∑ k, edge X N U W b i k o * edge X N U W b i k o : ℝ) : EReal) := by
  have hN : cfg4.N = 64 := rfl
  have e : ∀ t : Fin cfg4.N, statRows (prods4 (iblk4 V c 0 t) (iblk4 V c 1 t) (iblk4 V c 2 t) (iblk4 V c 3 t)) (ix2 1 o)
      = ((∑ r : Fin 256, ∑ k, edge X N U W ⟨t.val / 8, by omega⟩ ⟨t.val % 8 * 256 + r.val, by omega⟩ k o
          * edge X N U W ⟨t.val / 8, by omega⟩ ⟨t.val % 8 * 256 + r.val, by omega⟩ k o : ℝ) : EReal) := fun t =>
    statRows_1 _ (fun r k o => edge X N U W ⟨t.val / 8, by omega⟩ ⟨t.val % 8 * 256 + r.val, by omega⟩ k o)
      (fun r k o => prods4_at V c X N U W hx hn hU hW t _ _ r rfl rfl k o) o
  rw [Finset.sum_congr rfl fun t _ => e t, sum_coe]
  exact congrArg _ (Fin.sum_points_lanes_congr 8 fun t r ha hl => rfl)

end Cert.Proof

end

end
-- ==== Proof.Region6.lean ====
module

public import proofs.«01_k».proof.Proof.Region2

/-! The last finalize call: scale, shift and activation over 256 channels. -/

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- The payload of the last finalize call at an entry: the normalised and rectified product. -/
theorem pay6_at (s h : Vec Ideal S1x256 .f32) (m n : Vec Ideal S1x2048x256 .f32) (i : Fin 2048) (o : Fin 256) :
    k6_pay1 s m n h (ix3 0 i o) = act (s (ix2 0 o)) (h (ix2 0 o)) (m (ix3 0 i o)) (n (ix3 0 i o)) := by
  pointwise [k6_pay1]
  rw [word_slope]
  rfl

/-- The last finalize call stores its one payload. -/
theorem out6_eq (m n : Vec Ideal S1x2048x256 .f32) (s h : Vec Ideal S1x256 .f32) : out6_4 m n s h = k6_pay1 s m n h := by
  frame_out

/-- The blocks that the windows of the last finalize call stand at, at each grid step. -/
theorem idx6 : ∀ t : Fin cfg6.N, win6_0.index t = ![t.val, 0, 0] ∧ win6_1.index t = ![t.val, 0, 0]
    ∧ win6_2.index t = ![0, 0] ∧ win6_3.index t = ![0, 0] ∧ win6_4.index t = ![t.val, 0, 0] :=
  (by decide +kernel : ∀ t : Fin grid6.N, _)

variable (V : (c : Dev nD) → (b : Ref sig .tc) → Buf (Elt Ideal) ((c : Thread nD τ).loc b))

/-- What the last finalize call reads through window 0: the fused product (as the greatest). -/
theorem read6_0 (c : Dev nD) (t : Fin cfg6.N) (b : Fin 8) (i : Fin 2048) (o : Fin 256) (hb : b.val = t.val) :
    iblk6 V c 0 t (ix3 0 i o) = V c main_v53_0 (ix3 b i o) := by
  blk_ext [iblk6, idx6 t]

/-- What the last finalize call reads through window 1: the fused product (as the least). -/
theorem read6_1 (c : Dev nD) (t : Fin cfg6.N) (b : Fin 8) (i : Fin 2048) (o : Fin 256) (hb : b.val = t.val) :
    iblk6 V c 1 t (ix3 0 i o) = V c main_v53_0 (ix3 b i o) := by
  blk_ext [iblk6, idx6 t]

/-- What the last finalize call reads through window 2: the scale. -/
theorem read6_2 (c : Dev nD) (t : Fin cfg6.N) (o : Fin 256) : iblk6 V c 2 t (ix2 0 o) = V c main_v70 (ix2 0 o) := by
  blk_ext [iblk6, idx6 t]

/-- What the last finalize call reads through window 3: the shift. -/
theorem read6_3 (c : Dev nD) (t : Fin cfg6.N) (o : Fin 256) : iblk6 V c 3 t (ix2 0 o) = V c main_v71 (ix2 0 o) := by
  blk_ext [iblk6, idx6 t]

/-- What the last finalize call stores at a grid step: the block of result. -/
theorem block6 (c : Dev nD) (t : Fin cfg6.N) (b : Fin 8) (i i' : Fin 2048) (o o' : Fin 256) (hb : b.val = t.val + (0 : Fin 1).val)
    (hi : i'.val = i.val) (ho : o'.val = o.val) :
    k6_pay1 (iblk6 V c 2 t) (iblk6 V c 0 t) (iblk6 V c 1 t) (iblk6 V c 3 t) (ix3 0 i o)
      = act (V c main_v70 (ix2 0 o')) (V c main_v71 (ix2 0 o')) (V c main_v53_0 (ix3 b i' o')) (V c main_v53_0 (ix3 b i' o')) := by
  obtain rfl : i' = i := Fin.ext hi
  obtain rfl : o' = o := Fin.ext ho
  rw [pay6_at, read6_0 V c t b i' o' hb, read6_1 V c t b i' o' hb, read6_2 V c t, read6_3 V c t]

/-- After the last finalize call its array holds the activation of the scaled and shifted features. -/
theorem arr6 (c : Dev nD) : (dat6 V c).arrAt 4 cfg6.N = fun j : S8x2048x256.Idx =>
    act (V c main_v70 (ix2 0 (j 2))) (V c main_v71 (ix2 0 (j 2))) (V c main_v53_0 (ix3 (j 0) (j 1) (j 2))) (V c main_v53_0 (ix3 (j 0) (j 1) (j 2))) := by
  refine (dat6 V c).arrAt_eq_of_covers 4 _ (by decide +kernel) fun t _ y => ?_
  blk_simp
  rw [after6_4, out6_eq]
  generalize hj : ((cfg6.win 4).blk t).view.emb y = j
  have h0 : (j 0 : ℕ) = t.val + (y 0).val := by rw [← hj]; blk_simp [idx6 t]
  have h1 : (j 1 : ℕ) = (y 1).val := by rw [← hj]; blk_simp [idx6 t]
  have h2 : (j 2 : ℕ) = (y 2).val := by rw [← hj]; blk_simp [idx6 t]
  have hy : y = ix3 0 (y 1) (y 2) := by blk_ext
  have hy0 : (y 0).val = 0 := by rw [hy]; rfl
  rw [hy]
  exact block6 V c t (j 0) (y 1) (j 1) (y 2) (j 2) (h0.trans (congrArg _ hy0)) h1 h2

end Cert.Proof

end

end
-- ==== Proof.KernelValue.lean ====
module

public import proofs.«01_k».proof.Proof.Model
public import proofs.«01_k».proof.Proof.Host
public import proofs.«01_k».proof.Proof.Region0
public import proofs.«01_k».proof.Proof.Region3
public import proofs.«01_k».proof.Proof.Region4
public import proofs.«01_k».proof.Proof.Region6

/-! The kernel's result array, through its seven calls and the host stretches between them. -/

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg) (c : Dev nD)
  (x : Fin 8 → Fin 2048 → Fin 3 → ℝ) (w0 : Fin 64 → Fin 6 → ℝ) (g0 b0 : Fin 64 → ℝ) (w1 : Fin 64 → Fin 128 → ℝ) (g1 b1 : Fin 64 → ℝ)
  (wf : Fin 256 → Fin 128 → ℝ) (gf : Fin 256 → ℝ) (bf : Fin 256 → EReal)

section
variable (hx : ∀ b i ch, m ((c.tc : Thread nD τ).loc main_arg0) (ix3 b i ch) = (x b i ch : EReal))
  (hw : ∀ o ch, m ((c.tc : Thread nD τ).loc main_arg1) (ix2 o ch) = (w0 o ch : EReal))
include hx

/-- The padded points, at the entry of the first search. -/
theorem step1_v1 (b i) (ch : Fin 8) : V1 m ρ c main_v1 (ix3 b i ch) = (pad x b i ch : EReal) := host0_v1 (W0 m ρ c) x hx b i ch

/-- The padded points transposed, at the entry of the first search. -/
theorem step1_v2 (b i) (ch : Fin 8) : V1 m ρ c main_v2 (ix3 b ch i) = (pad x b i ch : EReal) := host0_v2 (W0 m ρ c) x hx b i ch

/-- The first layer's neighbours, after the first call. -/
theorem step2_v9 (b i k) : V2 m ρ c main_v9 (ix3 b i k) = BitVec.ofNat 32 (near x b i k) := by
  rw [← near_pad]
  exact congrFun ((W2_arr m ρ c 2).trans (arr0 (V1 m ρ) c (pad x) (step1_v1 m ρ c x hx) (step1_v2 m ρ c x hx))) (ix3 b i k)

/-- The padded points, at the entry of the first edge call. -/
theorem step2_v1 (b i) (ch : Fin 8) : V2 m ρ c main_v1 (ix3 b i ch) = (pad x b i ch : EReal) :=
  (congrFun (W2_of m ρ c main_v1 (by decide)) _).trans (step1_v1 m ρ c x hx b i ch)

omit hx in
include hw in
/-- The upper half of the first weights, at the entry of the first edge call. -/
theorem step2_v8 (ch : Fin 8) (o : Fin 64) :
    V2 m ρ c main_v8 (ix2 (⟨ch.val, by omega⟩ : Fin 16) o) = (padW (fun o ch => w0 o ⟨ch.val, by omega⟩) ch o : EReal) :=
  (congrFun (W2_of m ρ c main_v8 (by decide)) _).trans (host0_v8 (W0 m ρ c) w0 hw ch o)

omit hx in
include hw in
/-- The lower half of the first weights, at the entry of the first edge call. -/
theorem step2_v8' (ch : Fin 8) (o : Fin 64) :
    V2 m ρ c main_v8 (ix2 (⟨8 + ch.val, by omega⟩ : Fin 16) o) = (padW (fun o ch => w0 o ⟨3 + ch.val, by omega⟩) ch o : EReal) :=
  (congrFun (W2_of m ρ c main_v8 (by decide)) _).trans (host0_v8' (W0 m ρ c) w0 hw ch o)

include hw

/-- The first layer's maxima, after the second call. -/
theorem step3_max (b i o) : V3 m ρ c main_v10_0 (ix3 b i o) = (maxOf (fun k => conv0 x w0 b i k o) : EReal) := by
  unfold conv0
  simp only [← edge_pad]
  exact congrFun ((W3_arr m ρ c 4).trans (arr1_4 (V2 m ρ) c (pad x) (near x) _ _ (step2_v1 m ρ c x hx) (step2_v9 m ρ c x hx)
    (step2_v8 m ρ c w0 hw) (step2_v8' m ρ c w0 hw))) (ix3 b i o)

/-- The least product over the neighbours, after the first edge call. -/
theorem step3_min (b i o) : V3 m ρ c main_v10_1 (ix3 b i o) = (minOf (fun k => conv0 x w0 b i k o) : EReal) := by
  unfold conv0
  simp only [← edge_pad]
  exact congrFun ((W3_arr m ρ c 5).trans (arr1_5 (V2 m ρ) c (pad x) (near x) _ _ (step2_v1 m ρ c x hx) (step2_v9 m ρ c x hx)
    (step2_v8 m ρ c w0 hw) (step2_v8' m ρ c w0 hw))) (ix3 b i o)

/-- The first layer's sums, after the second call. -/
theorem step3_sum (o : Fin 64) : W3 m ρ c (Proc.devRef .tc main_v10_2) (ix2 0 o) = ((∑ p, channel (conv0 x w0) o p : ℝ) : EReal) := by
  refine (congrFun ((W3_arr m ρ c 6).trans (arr1_6 (V2 m ρ) c)) (ix2 0 o)).trans ((stats1_0 (V2 m ρ) c (pad x) (near x) _ _ (step2_v1 m ρ c x hx)
    (step2_v9 m ρ c x hx) (step2_v8 m ρ c w0 hw) (step2_v8' m ρ c w0 hw) o).trans ?_)
  simp only [edge_pad, Fintype.sum_prod_type]
  rfl

/-- The sum of the squared products of a channel, after the first edge call. -/
theorem step3_squares (o : Fin 64) : W3 m ρ c (Proc.devRef .tc main_v10_2) (ix2 1 o)
    = ((∑ p, channel (conv0 x w0) o p * channel (conv0 x w0) o p : ℝ) : EReal) := by
  refine (congrFun ((W3_arr m ρ c 6).trans (arr1_6 (V2 m ρ) c)) (ix2 1 o)).trans ((stats1_1 (V2 m ρ) c (pad x) (near x) _ _ (step2_v1 m ρ c x hx)
    (step2_v9 m ρ c x hx) (step2_v8 m ρ c w0 hw) (step2_v8' m ρ c w0 hw) o).trans ?_)
  simp only [edge_pad, Fintype.sum_prod_type]
  rfl

variable (hg : ∀ o, m ((c.tc : Thread nD τ).loc main_arg2) (ix1 o) = (g0 o : EReal)) (hb : ∀ o, m ((c.tc : Thread nD τ).loc main_arg3) (ix1 o) = (b0 o : EReal))
include hg hb

/-- The first layer's features, after the third call. -/
theorem step5_v29 (b i o) : V5 m ρ c main_v29 (ix3 b i o) = (feat0 x w0 g0 b0 b i o : EReal) := by
  refine (congrFun ((W5_arr m ρ c 4).trans (arr2 (V4 m ρ) c)) (ix3 b i o)).trans ?_
  have e0 : V4 m ρ c main_v10_0 (ix3 b i o) = _ := (congrFun (W4_of m ρ c main_v10_0 (by decide)) _).trans (step3_max m ρ c x w0 hx hw b i o)
  have e1 : V4 m ρ c main_v10_1 (ix3 b i o) = _ := (congrFun (W4_of m ρ c main_v10_1 (by decide)) _).trans (step3_min m ρ c x w0 hx hw b i o)
  have a2 : W3 m ρ c (Proc.devRef .tc main_arg2) (ix1 o) = _ := (congrFun (W3_args m ρ c main_arg2 (by decide)) _).trans (hg o)
  have a3 : W3 m ρ c (Proc.devRef .tc main_arg3) (ix1 o) = _ := (congrFun (W3_args m ρ c main_arg3 (by decide)) _).trans (hb o)
  have s : V4 m ρ c main_v27 (ix2 0 o) = _ := host2_v27 (W3 m ρ c) o
  have t : V4 m ρ c main_v28 (ix2 0 o) = _ := host2_v28 (W3 m ρ c) o
  rw [step3_sum m ρ c x w0 hx hw, step3_squares m ρ c x w0 hx hw, a2] at s
  rw [step3_sum m ρ c x w0 hx hw, step3_squares m ρ c x w0 hx hw, a2, a3] at t
  change act (V4 m ρ c main_v27 (ix2 0 o)) (V4 m ρ c main_v28 (ix2 0 o)) (V4 m ρ c main_v10_0 (ix3 b i o)) (V4 m ρ c main_v10_1 (ix3 b i o)) = _
  rw [s, t, e0, e1]
  exact act_coe 327680 (channel (conv0 x w0) o) card_edges (by norm_num) (g0 o) (b0 o) fun k => conv0 x w0 b i k o

end

end Cert.Proof

end

end
-- ==== Proof.KernelValue2.lean ====
module

public import proofs.«01_k».proof.Proof.KernelValue

/-! The second half: the second edge layer, the fused product and the last normalisation, from the first layer's features. -/

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg) (c : Dev nD)
  (H : Fin 8 → Fin 2048 → Fin 64 → ℝ) (w1 : Fin 64 → Fin 128 → ℝ) (g1 b1 : Fin 64 → ℝ)
  (wf : Fin 256 → Fin 128 → ℝ) (gf : Fin 256 → ℝ) (bf : Fin 256 → EReal)
  (hH : ∀ b i ch, V5 m ρ c main_v29 (ix3 b i ch) = (H b i ch : EReal))
  (hw : ∀ o ch, m ((c.tc : Thread nD τ).loc main_arg4) (ix2 o ch) = (w1 o ch : EReal))

section
include hH

/-- The first layer's features, at the entry of the second search. -/
theorem step6_v29 (b i) (ch : Fin 64) : V6 m ρ c main_v29 (ix3 b i ch) = (H b i ch : EReal) :=
  (congrFun (W6_of m ρ c main_v29 (by decide)) _).trans (hH b i ch)

/-- The first layer's features transposed, at the entry of the second search. -/
theorem step6_v30 (b i) (ch : Fin 64) : V6 m ρ c main_v30 (ix3 b ch i) = (H b i ch : EReal) :=
  (host3_v30 (W5 m ρ c) b i ch).trans (hH b i ch)

omit hH in
include hw in
/-- The second layer's weights transposed, at the entry of the second search. -/
theorem step6_v31 (a : Fin 128) (o : Fin 64) : V6 m ρ c main_v31 (ix2 a o) = (w1 o a : EReal) :=
  (host3_v31 (W5 m ρ c) a o).trans ((congrFun (W5_args m ρ c main_arg4 (by decide)) _).trans (hw o a))

/-- The second layer's neighbours, after the fourth call. -/
theorem step7_v32 (b i k) : V7 m ρ c main_v32 (ix3 b i k) = BitVec.ofNat 32 (near H b i k) :=
  congrFun ((W7_arr m ρ c 2).trans (arr3 (V6 m ρ) c H (step6_v29 m ρ c H hH) (step6_v30 m ρ c H hH))) (ix3 b i k)

/-- The first layer's features, at the entry of the second edge call. -/
theorem step7_v29 (b i) (ch : Fin 64) : V7 m ρ c main_v29 (ix3 b i ch) = (H b i ch : EReal) :=
  (congrFun (W7_of m ρ c main_v29 (by decide)) _).trans (step6_v29 m ρ c H hH b i ch)

omit hH in
include hw in
/-- The second layer's weights transposed, at the entry of the second edge call. -/
theorem step7_v31 (a : Fin 128) (o : Fin 64) : V7 m ρ c main_v31 (ix2 a o) = (w1 o a : EReal) :=
  (congrFun (W7_of m ρ c main_v31 (by decide)) _).trans (step6_v31 m ρ c w1 hw a o)

include hw

/-- The second layer's maxima, after the fifth call. -/
theorem step8_max (b i o) : V8 m ρ c main_v33_0 (ix3 b i o) = (maxOf (fun k => conv1 H w1 b i k o) : EReal) :=
  congrFun ((W8_arr m ρ c 4).trans (arr4_4 (V7 m ρ) c H (near H) (fun ch o => w1 o ⟨ch.val, lt128 ch⟩) (fun ch o => w1 o ⟨64 + ch.val, add_lt128 ch⟩)
    (step7_v29 m ρ c H hH) (step7_v32 m ρ c H hH)
    (fun ch o => step7_v31 m ρ c w1 hw _ o) (fun ch o => step7_v31 m ρ c w1 hw _ o))) (ix3 b i o)

/-- The least product over the neighbours, after the second edge call. -/
theorem step8_min (b i o) : V8 m ρ c main_v33_1 (ix3 b i o) = (minOf (fun k => conv1 H w1 b i k o) : EReal) :=
  congrFun ((W8_arr m ρ c 5).trans (arr4_5 (V7 m ρ) c H (near H) (fun ch o => w1 o ⟨ch.val, lt128 ch⟩) (fun ch o => w1 o ⟨64 + ch.val, add_lt128 ch⟩)
    (step7_v29 m ρ c H hH) (step7_v32 m ρ c H hH)
    (fun ch o => step7_v31 m ρ c w1 hw _ o) (fun ch o => step7_v31 m ρ c w1 hw _ o))) (ix3 b i o)

/-- The second layer's sums, after the fifth call. -/
theorem step8_sum (o : Fin 64) : W8 m ρ c (Proc.devRef .tc main_v33_2) (ix2 0 o) = ((∑ p, channel (conv1 H w1) o p : ℝ) : EReal) := by
  refine (congrFun ((W8_arr m ρ c 6).trans (arr4_6 (V7 m ρ) c)) (ix2 0 o)).trans ((stats4_0 (V7 m ρ) c H (near H)
    (fun ch o => w1 o ⟨ch.val, lt128 ch⟩) (fun ch o => w1 o ⟨64 + ch.val, add_lt128 ch⟩) (step7_v29 m ρ c H hH)
    (step7_v32 m ρ c H hH) (fun ch o => step7_v31 m ρ c w1 hw _ o) (fun ch o => step7_v31 m ρ c w1 hw _ o) o).trans ?_)
  simp only [Fintype.sum_prod_type]
  rfl

/-- The sum of the squared products of a channel, after the second edge call. -/
theorem step8_squares (o : Fin 64) : W8 m ρ c (Proc.devRef .tc main_v33_2) (ix2 1 o)
    = ((∑ p, channel (conv1 H w1) o p * channel (conv1 H w1) o p : ℝ) : EReal) := by
  refine (congrFun ((W8_arr m ρ c 6).trans (arr4_6 (V7 m ρ) c)) (ix2 1 o)).trans ((stats4_1 (V7 m ρ) c H (near H)
    (fun ch o => w1 o ⟨ch.val, lt128 ch⟩) (fun ch o => w1 o ⟨64 + ch.val, add_lt128 ch⟩) (step7_v29 m ρ c H hH)
    (step7_v32 m ρ c H hH) (fun ch o => step7_v31 m ρ c w1 hw _ o) (fun ch o => step7_v31 m ρ c w1 hw _ o) o).trans ?_)
  simp only [Fintype.sum_prod_type]
  rfl

omit hw in
/-- The first layer's features, at the entry of the fused call. -/
theorem step9_v29 (b i) (ch : Fin 64) : V9 m ρ c main_v29 (ix3 b i ch) = (H b i ch : EReal) :=
  (congrFun (W9_of m ρ c main_v29 (by decide)) _).trans ((congrFun (W8_of m ρ c main_v29 (by decide)) _).trans (step7_v29 m ρ c H hH b i ch))

variable (hg : ∀ o, m ((c.tc : Thread nD τ).loc main_arg5) (ix1 o) = (g1 o : EReal)) (hb : ∀ o, m ((c.tc : Thread nD τ).loc main_arg6) (ix1 o) = (b1 o : EReal))
include hg hb

/-- The second layer's features, as the fuse call finds them at its entry. -/
theorem step9_act (b i o) : act (V9 m ρ c main_v50 (ix2 0 o)) (V9 m ρ c main_v51 (ix2 0 o)) (V9 m ρ c main_v33_0 (ix3 b i o)) (V9 m ρ c main_v33_1 (ix3 b i o))
    = (layer (conv1 H w1) g1 b1 b i o : EReal) := by
  have e0 : V9 m ρ c main_v33_0 (ix3 b i o) = _ := (congrFun (W9_of m ρ c main_v33_0 (by decide)) _).trans (step8_max m ρ c H w1 hH hw b i o)
  have e1 : V9 m ρ c main_v33_1 (ix3 b i o) = _ := (congrFun (W9_of m ρ c main_v33_1 (by decide)) _).trans (step8_min m ρ c H w1 hH hw b i o)
  have a2 : W8 m ρ c (Proc.devRef .tc main_arg5) (ix1 o) = _ := (congrFun (W8_args m ρ c main_arg5 (by decide)) _).trans (hg o)
  have a3 : W8 m ρ c (Proc.devRef .tc main_arg6) (ix1 o) = _ := (congrFun (W8_args m ρ c main_arg6 (by decide)) _).trans (hb o)
  have s : V9 m ρ c main_v50 (ix2 0 o) = _ := host5_v50 (W8 m ρ c) o
  have t : V9 m ρ c main_v51 (ix2 0 o) = _ := host5_v51 (W8 m ρ c) o
  rw [step8_sum m ρ c H w1 hH hw, step8_squares m ρ c H w1 hH hw, a2] at s
  rw [step8_sum m ρ c H w1 hH hw, step8_squares m ρ c H w1 hH hw, a2, a3] at t
  rw [s, t, e0, e1]
  exact act_coe 327680 (channel (conv1 H w1) o) card_edges (by norm_num) (g1 o) (b1 o) fun k => conv1 H w1 b i k o

end

section
variable (A : Fin 8 → Fin 2048 → Fin 64 → ℝ) (hH9 : ∀ b i ch, V9 m ρ c main_v29 (ix3 b i ch) = (H b i ch : EReal))
  (hA9 : ∀ b i o, act (V9 m ρ c main_v50 (ix2 0 o)) (V9 m ρ c main_v51 (ix2 0 o)) (V9 m ρ c main_v33_0 (ix3 b i o)) (V9 m ρ c main_v33_1 (ix3 b i o)) = (A b i o : EReal))
  (hwf : ∀ o ch, m ((c.tc : Thread nD τ).loc main_arg7) (ix2 o ch) = (wf o ch : EReal))
include hwf

/-- The fused product's weights transposed, at the entry of the fused call. -/
theorem step9_v52 (a : Fin 128) (o : Fin 256) : V9 m ρ c main_v52 (ix2 a o) = (wf o a : EReal) :=
  (host5_v52 (W8 m ρ c) a o).trans ((congrFun (W8_args m ρ c main_arg7 (by decide)) _).trans (hwf o a))

include hH9 hA9

/-- The fused products, after the sixth call. -/
theorem step10_v53 (b i o) : V10 m ρ c main_v53_0 (ix3 b i o) = (fuse H A (fun a o => wf o a) b i o : EReal) :=
  congrFun ((W10_arr m ρ c 6).trans (arr5_6 (V9 m ρ) c H A _ hH9 hA9 (step9_v52 m ρ c wf hwf))) (ix3 b i o)

/-- The sum of a column of the fused product, after the fused call. -/
theorem step10_sum (o : Fin 256) : W10 m ρ c (Proc.devRef .tc main_v53_1) (ix2 0 o) = ((∑ p, column (fuse H A fun a o => wf o a) o p : ℝ) : EReal) := by
  refine (congrFun ((W10_arr m ρ c 7).trans (arr5_7 (V9 m ρ) c)) (ix2 0 o)).trans ((stats5_0 (V9 m ρ) c H A _ hH9 hA9 (step9_v52 m ρ c wf hwf) o).trans ?_)
  simp only [Fintype.sum_prod_type]
  rfl

/-- The sum of a column's squares of the fused product, after the fused call. -/
theorem step10_squares (o : Fin 256) : W10 m ρ c (Proc.devRef .tc main_v53_1) (ix2 1 o)
    = ((∑ p, column (fuse H A fun a o => wf o a) o p * column (fuse H A fun a o => wf o a) o p : ℝ) : EReal) := by
  refine (congrFun ((W10_arr m ρ c 7).trans (arr5_7 (V9 m ρ) c)) (ix2 1 o)).trans ((stats5_1 (V9 m ρ) c H A _ hH9 hA9 (step9_v52 m ρ c wf hwf) o).trans ?_)
  simp only [Fintype.sum_prod_type]
  rfl

variable (hg : ∀ o, m ((c.tc : Thread nD τ).loc main_arg8) (ix1 o) = (gf o : EReal)) (hb : ∀ o, m ((c.tc : Thread nD τ).loc main_arg9) (ix1 o) = bf o)
include hg hb

/-- The result array, after the last call. -/
theorem step12_v72 (b i o) : V12 m ρ c main_v72 (ix3 b i o) = final (fuse H A fun a o => wf o a) gf bf b i o := by
  refine (congrFun ((W12_arr m ρ c 4).trans (arr6 (V11 m ρ) c)) (ix3 b i o)).trans ?_
  have e0 : V11 m ρ c main_v53_0 (ix3 b i o) = _ := (congrFun (W11_of m ρ c main_v53_0 (by decide)) _).trans (step10_v53 m ρ c H wf A hH9 hA9 hwf b i o)
  have a2 : W10 m ρ c (Proc.devRef .tc main_arg8) (ix1 o) = _ := (congrFun (W10_args m ρ c main_arg8 (by decide)) _).trans (hg o)
  have a3 : W10 m ρ c (Proc.devRef .tc main_arg9) (ix1 o) = _ := (congrFun (W10_args m ρ c main_arg9 (by decide)) _).trans (hb o)
  have s : V11 m ρ c main_v70 (ix2 0 o) = _ := host6_v70 (W10 m ρ c) o
  have t : V11 m ρ c main_v71 (ix2 0 o) = _ := host6_v71 (W10 m ρ c) o
  rw [step10_sum m ρ c H wf A hH9 hA9 hwf, step10_squares m ρ c H wf A hH9 hA9 hwf, a2] at s
  rw [step10_sum m ρ c H wf A hH9 hA9 hwf, step10_squares m ρ c H wf A hH9 hA9 hwf, a2, a3] at t
  change act (V11 m ρ c main_v70 (ix2 0 o)) (V11 m ρ c main_v71 (ix2 0 o)) (V11 m ρ c main_v53_0 (ix3 b i o)) (V11 m ρ c main_v53_0 (ix3 b i o)) = _
  rw [s, t, e0]
  exact act_one 16384 (column (fuse H A fun a o => wf o a) o) card_points (by norm_num) (gf o) (bf o) (fuse H A (fun a o => wf o a) b i o)

end

section
variable (x : Fin 8 → Fin 2048 → Fin 3 → ℝ) (w0 : Fin 64 → Fin 6 → ℝ) (g0 b0 : Fin 64 → ℝ)

/-- The kernel's result is the network's, when the arguments are the given reals. -/
theorem kernel_value (h0 : ∀ b i ch, m ((c.tc : Thread nD τ).loc main_arg0) (ix3 b i ch) = (x b i ch : EReal))
    (h1 : ∀ o ch, m ((c.tc : Thread nD τ).loc main_arg1) (ix2 o ch) = (w0 o ch : EReal))
    (h2 : ∀ o, m ((c.tc : Thread nD τ).loc main_arg2) (ix1 o) = (g0 o : EReal)) (h3 : ∀ o, m ((c.tc : Thread nD τ).loc main_arg3) (ix1 o) = (b0 o : EReal))
    (h4 : ∀ o ch, m ((c.tc : Thread nD τ).loc main_arg4) (ix2 o ch) = (w1 o ch : EReal))
    (h5 : ∀ o, m ((c.tc : Thread nD τ).loc main_arg5) (ix1 o) = (g1 o : EReal)) (h6 : ∀ o, m ((c.tc : Thread nD τ).loc main_arg6) (ix1 o) = (b1 o : EReal))
    (h7 : ∀ o ch, m ((c.tc : Thread nD τ).loc main_arg7) (ix2 o ch) = (wf o ch : EReal))
    (h8 : ∀ o, m ((c.tc : Thread nD τ).loc main_arg8) (ix1 o) = (gf o : EReal)) (h9 : ∀ o, m ((c.tc : Thread nD τ).loc main_arg9) (ix1 o) = bf o) (b i o) :
    V12 m ρ c main_v72 (ix3 b i o) = model x w0 g0 b0 w1 g1 b1 wf gf bf b i o :=
  step12_v72 m ρ c _ wf gf bf _ (step9_v29 m ρ c _ (step5_v29 m ρ c x w0 g0 b0 h0 h1 h2 h3))
    (step9_act m ρ c _ w1 g1 b1 (step5_v29 m ρ c x w0 g0 b0 h0 h1 h2 h3) h4 h5 h6) h7 h8 h9 b i o

end

end Cert.Proof

end

end
-- ==== Proof.RefOps.lean ====
module

public import proofs.«01_k».proof.Proof.Gen.ReferenceIdeal.Run
public import proofs.«01_k».proof.Proof.Order
public import proofs.«01_k».proof.Proof.Consts
public import Idealize.ShloMosaic.Lib.ValueIdxCore

/-! Two operations of the reference read at an index: the batched row gather and the largest twenty along the last axis. -/

@[expose] public section

set_option maxRecDepth 16384

noncomputable section

namespace Cert.Proof

open Idealize.ShloMosaic Idealize.ShloMosaic.TcCoe Idealize.SL.Sem Cert.ReferenceIdeal Cert.ReferenceIdeal.Gen Cert.ReferenceIdeal.Value

open Idealize.ShloMosaic.ValueIdx

/-- The gather that takes, in each cloud, whole rows at given row numbers. -/
abbrev rowDims (C : Nat) (wf : GatherDims.WF ⟨3, ![8, 2048, C]⟩ ⟨4, ![8, 2048, 20, 1]⟩ ⟨4, ![8, 2048, 20, C]⟩ [3] [1] [0] [1] [0] 3 ![1, 1, C]) :
    GatherDims ⟨3, ![8, 2048, C]⟩ ⟨4, ![8, 2048, 20, 1]⟩ ⟨4, ![8, 2048, 20, C]⟩ where
  offsetDims := [3]
  collapsedSliceDims := [1]
  operandBatchingDims := [0]
  startIndicesBatchingDims := [0]
  startIndexMap := [1]
  indexVectorDim := 3
  sliceSizes := ![1, 1, C]
  wf := wf

/-- The row gather at cloud `b`, point `i`, neighbour `k`, coordinate `c` is the operand's row with the given number. -/
theorem gather_row {α : Type} {C w : Nat} (wf) (x : (⟨3, ![8, 2048, C]⟩ : Shape).Idx → α) (idx : IVec ⟨4, ![8, 2048, 20, 1]⟩ w)
    (b : Fin 8) (i : Fin 2048) (k : Fin 20) (c : Fin C) (r : Fin 2048) (hr : (idx (ix4 b i k 0)).toInt = (r.val : ℤ)) :
    Host.gather (rowDims C wf) x idx (ix4 b i k c) = x (ix3 b r c) := by
  unfold Host.gather
  congr 1
  funext a
  refine Fin.ext ?_
  show (rowDims C wf).start (ix4 b i k c) idx a + (rowDims C wf).batchCoord (ix4 b i k c) a + (rowDims C wf).offCoord (ix4 b i k c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : (rowDims C wf).siIdx (ix4 b i k c) ⟨List.idxOf (1 : Fin 3) (rowDims C wf).startIndexMap,
        List.idxOf_lt_length_iff.2 (List.mem_singleton.mpr rfl)⟩ = ix4 b i k 0 := by
      funext e; refine Fin.ext ?_
      match e with
      | ⟨0, _⟩ => rfl
      | ⟨1, _⟩ => rfl
      | ⟨2, _⟩ => rfl
      | ⟨3, _⟩ => rfl
    refine Eq.trans (b := min (idx (ix4 b i k 0)).toInt.toNat 2047) ?_ ?_
    · rw [← hsi]; rfl
    · rw [hr]; show min r.val 2047 = r.val
      have := r.isLt; omega
  · rw [GatherDims.batchCoord_eq_zero _ _ _ (fun h => absurd (congrArg Fin.val (List.mem_singleton.mp h)) (by decide : (2 : ℕ) ≠ 0))]
    have h0 : (rowDims C wf).start (ix4 b i k c) idx 2 = 0 := by
      unfold GatherDims.start
      rw [dif_neg (fun h => absurd (congrArg Fin.val (List.mem_singleton.mp h)) (by decide : (2 : ℕ) ≠ 1))]
    rw [h0]
    simp only [Nat.zero_add]
    unfold GatherDims.offCoord
    rw [dif_pos ((GatherDims.mem_sKept _ _).mpr ⟨fun h => absurd (congrArg Fin.val (List.mem_singleton.mp h)) (by decide : (2 : ℕ) ≠ 1), fun h => absurd (congrArg Fin.val (List.mem_singleton.mp h)) (by decide : (2 : ℕ) ≠ 0)⟩)]
    rfl

/-- The second part of a sort of pairs: the second operand at the position the sort puts there. -/
theorem sort2_snd {s : Shape} {α β : Type} (a : Fin s.rank) (cmp : α × β → α × β → BitVec 1) (x : s.Idx → α) (y : s.Idx → β) (j : s.Idx) :
    (Host.sort2 s a.val cmp x y).2 j
      = y (j.along a (sortedFrom (fun k k' => cmp (x (j.along a k), y (j.along a k)) (x (j.along a k'), y (j.along a k')) == 1#1) (j a))) := by
  unfold Host.sort2
  rw [dif_pos a.isLt]

/-- The position among the largest twenty along the last axis is the neighbour list of the values along that axis. -/
theorem top_index (x : FVec Ideal S8x2048x2048 .f32) (h : S8x2048x2048.Slices (fun _ => 0) S8x2048x20) (b : Fin 8) (i : Fin 2048) (k : Fin 20) :
    (Host.topK S8x2048x20 2 (FloatOps.cmpfTotal (F := Ideal) (φ := .f32) .gt) x h).2 (ix3 b i k)
      = BitVec.ofNat 32 (nbr (fun j => x (ix3 b i j)) k).val := by
  have ha : ∀ p q : Fin 2048, (ix3 b i p : S8x2048x2048.Idx).along 2 q = ix3 b i q := by
    intro p q; funext e
    have h012 : e = 0 ∨ e = 1 ∨ e = 2 := by
      match e with
      | ⟨0, _⟩ => exact Or.inl rfl
      | ⟨1, _⟩ => exact Or.inr (Or.inl rfl)
      | ⟨2, _⟩ => exact Or.inr (Or.inr rfl)
    unfold Shape.Idx.along
    rcases h012 with rfl | rfl | rfl
    · exact Function.update_of_ne (by decide) _ _
    · exact Function.update_of_ne (by decide) _ _
    · exact Function.update_self _ _ _
  have hcmp : (fun p q : Fin 2048 => FloatOps.cmpfTotal (F := Ideal) (φ := .f32) .gt (x ((ix3 b i (k.castLE (by decide : 20 ≤ 2048)) : S8x2048x2048.Idx).along 2 p)) (x ((ix3 b i (k.castLE (by decide : 20 ≤ 2048)) : S8x2048x2048.Idx).along 2 q)) == 1#1)
      = above (fun j => x (ix3 b i j)) := by
    funext p q
    rw [ha, ha]
    unfold above
    show (BitVec.ofBool (decide (x (ix3 b i q) < x (ix3 b i p))) == 1#1) = _
    cases decide (x (ix3 b i q) < x (ix3 b i p)) <;> rfl
  unfold Host.topK
  dsimp only
  unfold extractStridedSlice
  generalize hy : (fun q : S8x2048x2048.Idx => if hd : 2 < S8x2048x2048.rank then iotaInDim S8x2048x2048 32 ⟨2, hd⟩ q else 0#32) = y
  have hy' : ∀ q : Fin 2048, y (ix3 b i q) = BitVec.ofNat 32 q.val := by
    intro q; rw [← hy]; dsimp only; rw [dif_pos (show 2 < S8x2048x2048.rank from by decide)]; rfl
  refine (congrArg (Host.sort2 S8x2048x2048 2 (fun l r => FloatOps.cmpfTotal (F := Ideal) (φ := .f32) .gt l.1 r.1) x y).2
    (?_ : _ = (ix3 b i (k.castLE (by decide : 20 ≤ 2048)) : S8x2048x2048.Idx))).trans ?_
  · funext e; refine Fin.ext ?_
    match e with
    | ⟨0, _⟩ => exact Nat.zero_add _
    | ⟨1, _⟩ => exact Nat.zero_add _
    | ⟨2, _⟩ => exact Nat.zero_add _
  refine (sort2_snd (s := S8x2048x2048) 2 _ x y _).trans ?_
  refine (congrArg y (ha _ _)).trans ?_
  refine (hy' _).trans ?_
  exact congrArg (fun f => BitVec.ofNat 32 (sortedFrom (n := 2048) f (k.castLE (by decide))).val) hcmp

end Cert.Proof

end

end
-- ==== Proof.RefEdge.lean ====
module

public import proofs.«01_k».proof.Proof.RefOps
public import proofs.«01_k».proof.Proof.Model
public import Idealize.ShloMosaic.Lib.Pointwise
public import Idealize.ShloMosaic.Lib.Tactic.CleanTypes

/-! The reference's distances, row numbers and edge products over plain operands. -/

@[expose] public section

set_option maxRecDepth 16384

noncomputable section

namespace Cert.Proof

open Idealize.ShloMosaic Idealize.ShloMosaic.TcCoe Idealize.SL.Sem Cert.ReferenceIdeal Cert.ReferenceIdeal.Gen Cert.ReferenceIdeal.Value

/-- The word of minus two. -/
theorem word_neg_two : Ideal.ofBits .f32 0xC0000000#32 = ((-2 : ℝ) : EReal) := by
  simp [Ideal.ofBits, Ideal.ieee, -EReal.coe_mul]; norm_num
  try norm_cast

/-- The distance as the reference writes it, over rows of reals. -/
theorem dist_coe {C : ℕ} (X : Fin 8 → Fin 2048 → Fin C → ℝ) (u : Fin 8 → Fin 2048 → Fin C → EReal) (hu : ∀ b i c, u b i c = (X b i c : EReal))
    (b : Fin 8) (i j : Fin 2048) :
    -∑ c, u b i c * u b i c - Ideal.ofBits .f32 0xC0000000#32 * ∑ c, u b i c * u b j c - ∑ c, u b j c * u b j c = (dist X b i j : EReal) := by
  simp only [hu, ← EReal.coe_mul, sum_coe, word_neg_two, ← EReal.coe_neg, ← EReal.coe_sub]
  congr 1
  unfold dist
  ring

/-- The edge product as the reference writes it, over rows of reals. -/
theorem edge_coe {C : ℕ} (X : Fin 8 → Fin 2048 → Fin C → ℝ) (U V : Fin C → Fin 64 → ℝ) (b : Fin 8) (i : Fin 2048) (k : Fin 20) (o : Fin 64)
    (gx ux p q : Fin C → EReal) (hg : ∀ c, gx c = (X b (near X b i k) c : EReal)) (hu : ∀ c, ux c = (X b i c : EReal))
    (hp : ∀ c, p c = (U c o : EReal)) (hq : ∀ c, q c = (V c o : EReal)) :
    ∑ c, (gx c - ux c) * p c + ∑ c, ux c * q c = (edge X (near X) U V b i k o : EReal) := by
  simp only [hg, hu, hp, hq, ← EReal.coe_sub, ← EReal.coe_mul, sum_coe, ← EReal.coe_add]
  rfl

/-- The row numbers handed to the gather. -/
def rowsE (idx : IVec S8x2048x20 32) : IVec S8x2048x20x1 32 :=
  broadcastInDim S8x2048x20x1 ![0, 1, 2] bcast_S8x2048x20_S8x2048x20x1_0_1_2 (select (cmpi .slt idx (broadcastInDim S8x2048x20 ![] bcast_S_S8x2048x20 (constantI S_ 32 0#32))) (addi idx (broadcastInDim S8x2048x20 ![] bcast_S_S8x2048x20 (constantI S_ 32 2048#32))) idx)

/-- A position among the points is not negative, so it is its own row number. -/
theorem rowsE_at (idx : IVec S8x2048x20 32) (b : Fin 8) (i : Fin 2048) (k : Fin 20) (r : Fin 2048) (h : idx (ix3 b i k) = BitVec.ofNat 32 r.val) :
    (rowsE idx (ix4 b i k 0)).toInt = (r.val : ℤ) := by
  have hr := r.isLt
  have e : rowsE idx (ix4 b i k 0) = Scalar.select (IntOp.cmpi .slt (idx (ix3 b i k)) 0#32) (IntOp.addi (idx (ix3 b i k)) 2048#32) (idx (ix3 b i k)) := by
    unfold rowsE; pointwise
  have ht : (BitVec.ofNat 32 r.val).toInt = (r.val : ℤ) := by
    have hn : (BitVec.ofNat 32 r.val).toNat = r.val := by
      rw [BitVec.toNat_ofNat]; exact Nat.mod_eq_of_lt (by omega)
    rw [BitVec.toInt_eq_toNat_of_lt (by rw [hn]; omega), hn]
  have hc : IntOp.cmpi .slt (BitVec.ofNat 32 r.val) 0#32 = 0#1 := by
    have : ¬ (BitVec.ofNat 32 r.val).slt 0#32 = true := by
      rw [BitVec.slt_iff_toInt_lt, ht]; simp
    show BitVec.ofBool ((BitVec.ofNat 32 r.val).slt 0#32) = 0#1
    simp [this]
  rw [e, h, hc]
  exact ht

/-- The first layer's gathered rows. -/
def rows0 (u : FVec Ideal S8x2048x3 .f32) (idx : IVec S8x2048x20 32) : FVec Ideal S8x2048x20x3 .f32 :=
  Host.gather gather_S8x2048x3_S8x2048x20x1_S8x2048x20x3_3_1_0_0_1_3_113 u (rowsE idx)

/-- The first layer's gathered rows are the rows the indices name. -/
theorem rows0_at (u : FVec Ideal S8x2048x3 .f32) (idx : IVec S8x2048x20 32) (b : Fin 8) (i : Fin 2048) (k : Fin 20) (c : Fin 3) (r : Fin 2048)
    (h : idx (ix3 b i k) = BitVec.ofNat 32 r.val) : rows0 u idx (ix4 b i k c) = u (ix3 b r c) := by
  unfold rows0 gather_S8x2048x3_S8x2048x20x1_S8x2048x20x3_3_1_0_0_1_3_113
  exact gather_row _ u (rowsE idx) b i k c r (rowsE_at idx b i k r h)

/-- The first layer's edge products from the gathered rows `g` and the points `u`. -/
def mulE0 (g : FVec Ideal S8x2048x20x3 .f32) (u : FVec Ideal S8x2048x3 .f32) (w : FVec Ideal S64x6 .f32) : FVec Ideal S8x64x2048x20 .f32 :=
  transpose S8x64x2048x20 [0, 3, 1, 2] (Host.dotGeneral dot_S8x6x2048x20_S64x6_S8x2048x20x64_1_1_023_0_n_n none (transpose S8x6x2048x20 [0, 3, 1, 2] (concatenate S8x2048x20x6 3 [⟨S8x2048x20x3, (subf g (broadcastInDim S8x2048x20x3 ![0, 1, 2, 3] bcast_S8x2048x1x3_S8x2048x20x3_0_1_2_3 (broadcastInDim S8x2048x1x3 ![0, 1, 3] bcast_S8x2048x3_S8x2048x1x3_0_1_3 u)))⟩, ⟨S8x2048x20x3, (broadcastInDim S8x2048x20x3 ![0, 1, 2, 3] bcast_S8x2048x1x3_S8x2048x20x3_0_1_2_3 (broadcastInDim S8x2048x1x3 ![0, 1, 3] bcast_S8x2048x3_S8x2048x1x3_0_1_3 u))⟩] concatenates_S8x2048x20x3_S8x2048x20x3_S8x2048x20x6_d3) transposes_S8x2048x20x6_S8x6x2048x20_0_3_1_2) w) transposes_S8x2048x20x64_S8x64x2048x20_0_3_1_2

/-- The first layer's product at an edge: weights against the difference to the neighbour, and weights against the point. -/
theorem mulE0_at (g : FVec Ideal S8x2048x20x3 .f32) (u : FVec Ideal S8x2048x3 .f32) (w : FVec Ideal S64x6 .f32) (b : Fin 8) (i : Fin 2048) (k : Fin 20) (o : Fin 64) :
    mulE0 g u w (ix4 b o i k) = ∑ c : Fin 3, (g (ix4 b i k c) - u (ix3 b i c)) * w (ix2 o ⟨c.val, by omega⟩) + ∑ c : Fin 3, u (ix3 b i c) * w (ix2 o ⟨3 + c.val, by omega⟩) := by
  unfold mulE0; pointwise

/-- The second layer's gathered rows. -/
def rows1 (u : FVec Ideal S8x2048x64 .f32) (idx : IVec S8x2048x20 32) : FVec Ideal S8x2048x20x64 .f32 :=
  Host.gather gather_S8x2048x64_S8x2048x20x1_S8x2048x20x64_3_1_0_0_1_3_1164 u (rowsE idx)

/-- The second layer's gathered rows are the rows the indices name. -/
theorem rows1_at (u : FVec Ideal S8x2048x64 .f32) (idx : IVec S8x2048x20 32) (b : Fin 8) (i : Fin 2048) (k : Fin 20) (c : Fin 64) (r : Fin 2048)
    (h : idx (ix3 b i k) = BitVec.ofNat 32 r.val) : rows1 u idx (ix4 b i k c) = u (ix3 b r c) := by
  unfold rows1 gather_S8x2048x64_S8x2048x20x1_S8x2048x20x64_3_1_0_0_1_3_1164
  exact gather_row _ u (rowsE idx) b i k c r (rowsE_at idx b i k r h)

/-- The second layer's edge products from the gathered rows `g` and the features `u`. -/
def mulE1 (g : FVec Ideal S8x2048x20x64 .f32) (u : FVec Ideal S8x2048x64 .f32) (w : FVec Ideal S64x128 .f32) : FVec Ideal S8x64x2048x20 .f32 :=
  transpose S8x64x2048x20 [0, 3, 1, 2] (Host.dotGeneral dot_S8x128x2048x20_S64x128_S8x2048x20x64_1_1_023_0_n_n none (transpose S8x128x2048x20 [0, 3, 1, 2] (concatenate S8x2048x20x128 3 [⟨S8x2048x20x64, (subf g (broadcastInDim S8x2048x20x64 ![0, 1, 2, 3] bcast_S8x2048x1x64_S8x2048x20x64_0_1_2_3 (broadcastInDim S8x2048x1x64 ![0, 1, 3] bcast_S8x2048x64_S8x2048x1x64_0_1_3 u)))⟩, ⟨S8x2048x20x64, (broadcastInDim S8x2048x20x64 ![0, 1, 2, 3] bcast_S8x2048x1x64_S8x2048x20x64_0_1_2_3 (broadcastInDim S8x2048x1x64 ![0, 1, 3] bcast_S8x2048x64_S8x2048x1x64_0_1_3 u))⟩] concatenates_S8x2048x20x64_S8x2048x20x64_S8x2048x20x128_d3) transposes_S8x2048x20x128_S8x128x2048x20_0_3_1_2) w) transposes_S8x2048x20x64_S8x64x2048x20_0_3_1_2

/-- The second layer's product at an edge: weights against the difference to the neighbour, and weights against the point. -/
theorem mulE1_at (g : FVec Ideal S8x2048x20x64 .f32) (u : FVec Ideal S8x2048x64 .f32) (w : FVec Ideal S64x128 .f32) (b : Fin 8) (i : Fin 2048) (k : Fin 20) (o : Fin 64) :
    mulE1 g u w (ix4 b o i k) = ∑ c : Fin 64, (g (ix4 b i k c) - u (ix3 b i c)) * w (ix2 o ⟨c.val, by omega⟩) + ∑ c : Fin 64, u (ix3 b i c) * w (ix2 o ⟨64 + c.val, by omega⟩) := by
  unfold mulE1; pointwise

/-- The distances of the points `u`. -/
def distE0 (u : FVec Ideal S8x2048x3 .f32) : FVec Ideal S8x2048x2048 .f32 :=
  subf (subf (broadcastInDim S8x2048x2048 ![0, 1, 2] bcast_S8x2048x1_S8x2048x2048_0_1_2 (Host.negf (broadcastInDim S8x2048x1 ![0, 1] bcast_S8x2048_S8x2048x1_0_1 (Host.reduceAdd (mulf u u) (constant S_ .f32 0x00000000#32) reducesTo_S8x2048x3_S8x2048_d2 h_S_)))) (mulf (broadcastInDim S8x2048x2048 ![] bcast_S_S8x2048x2048 (constant S_ .f32 0xC0000000#32)) (Host.dotGeneral dot_S8x2048x3_S8x2048x3_S8x2048x2048_2_2_1_1_0_0 none u u))) (broadcastInDim S8x2048x2048 ![0, 1, 2] bcast_S8x1x2048_S8x2048x2048_0_1_2 (broadcastInDim S8x1x2048 ![0, 2] bcast_S8x2048_S8x1x2048_0_2 (Host.reduceAdd (mulf u u) (constant S_ .f32 0x00000000#32) reducesTo_S8x2048x3_S8x2048_d2 h_S_)))

/-- The reference's negated distance of two points in the first layer. -/
theorem distE0_at (u : FVec Ideal S8x2048x3 .f32) (b : Fin 8) (i j : Fin 2048) :
    distE0 u (ix3 b i j) = -∑ c : Fin 3, u (ix3 b i c) * u (ix3 b i c) - Ideal.ofBits .f32 0xC0000000#32 * ∑ c : Fin 3, u (ix3 b i c) * u (ix3 b j c) - ∑ c : Fin 3, u (ix3 b j c) * u (ix3 b j c) := by
  unfold distE0; pointwise

/-- The distances of the features `u`. -/
def distE1 (u : FVec Ideal S8x2048x64 .f32) : FVec Ideal S8x2048x2048 .f32 :=
  subf (subf (broadcastInDim S8x2048x2048 ![0, 1, 2] bcast_S8x2048x1_S8x2048x2048_0_1_2 (Host.negf (broadcastInDim S8x2048x1 ![0, 1] bcast_S8x2048_S8x2048x1_0_1 (Host.reduceAdd (mulf u u) (constant S_ .f32 0x00000000#32) reducesTo_S8x2048x64_S8x2048_d2 h_S_)))) (mulf (broadcastInDim S8x2048x2048 ![] bcast_S_S8x2048x2048 (constant S_ .f32 0xC0000000#32)) (Host.dotGeneral dot_S8x2048x64_S8x2048x64_S8x2048x2048_2_2_1_1_0_0 none u u))) (broadcastInDim S8x2048x2048 ![0, 1, 2] bcast_S8x1x2048_S8x2048x2048_0_1_2 (broadcastInDim S8x1x2048 ![0, 2] bcast_S8x2048_S8x1x2048_0_2 (Host.reduceAdd (mulf u u) (constant S_ .f32 0x00000000#32) reducesTo_S8x2048x64_S8x2048_d2 h_S_)))

/-- The reference's negated distance of two points in the second layer. -/
theorem distE1_at (u : FVec Ideal S8x2048x64 .f32) (b : Fin 8) (i j : Fin 2048) :
    distE1 u (ix3 b i j) = -∑ c : Fin 64, u (ix3 b i c) * u (ix3 b i c) - Ideal.ofBits .f32 0xC0000000#32 * ∑ c : Fin 64, u (ix3 b i c) * u (ix3 b j c) - ∑ c : Fin 64, u (ix3 b j c) * u (ix3 b j c) := by
  unfold distE1; pointwise

end Cert.Proof

end

end
-- ==== Proof.RefSum.lean ====
module

public import proofs.«01_k».proof.Proof.Model
public import proofs.«01_k».proof.Proof.Gen.ReferenceIdeal.Run
public import Idealize.ShloMosaic.Lib.Pointwise
public import Idealize.ShloMosaic.Lib.Tactic.CleanTypes

/-! The reference's sums over all edges and over all points, and its normalisation and pooling of edge products. -/

@[expose] public section

set_option maxRecDepth 16384

noncomputable section

namespace Cert.Proof

open Idealize.ShloMosaic Idealize.ShloMosaic.TcCoe Idealize.SL.Sem Cert.ReferenceIdeal Cert.ReferenceIdeal.Gen Cert.ReferenceIdeal.Value

/-- A sum reduced to one channel runs over all edges. -/
theorem sum_edges (h : S8x64x2048x20.ReducesTo [0, 2, 3] S64) (v : S8x64x2048x20.Idx → EReal) (o : Fin 64) :
    Ideal.hostReduceAdd h v 0 (ix1 o) = ∑ p : Fin 8 × Fin 2048 × Fin 20, v (ix4 p.1 o p.2.1 p.2.2) := by
  refine (zero_add _).trans ?_
  refine Finset.sum_filter_eq_sum_of_fiber _ (fun p : Fin 8 × Fin 2048 × Fin 20 => (ix4 p.1 o p.2.1 p.2.2 : S8x64x2048x20.Idx))
    (fun _ _ e => Prod.ext (congrFun e 0) (Prod.ext (congrFun e 2) (congrFun e 3))) (fun i => ?_) v
  constructor
  · intro e
    refine ⟨(i 0, i 2, i 3), ?_⟩
    have := congrFun e 0
    funext a
    match a with
    | ⟨0, _⟩ => rfl
    | ⟨1, _⟩ => exact this.symm
    | ⟨2, _⟩ => rfl
    | ⟨3, _⟩ => rfl
  · rintro ⟨k, rfl⟩
    funext a
    match a with
    | ⟨0, _⟩ => rfl

/-- A sum reduced to one fused channel runs over all points. -/
theorem sum_points (h : S8x256x2048.ReducesTo [0, 2] S256) (v : S8x256x2048.Idx → EReal) (o : Fin 256) :
    Ideal.hostReduceAdd h v 0 (ix1 o) = ∑ p : Fin 8 × Fin 2048, v (ix3 p.1 o p.2) := by
  refine (zero_add _).trans ?_
  refine Finset.sum_filter_eq_sum_of_fiber _ (fun p : Fin 8 × Fin 2048 => (ix3 p.1 o p.2 : S8x256x2048.Idx))
    (fun _ _ e => Prod.ext (congrFun e 0) (congrFun e 2)) (fun i => ?_) v
  constructor
  · intro e
    refine ⟨(i 0, i 2), ?_⟩
    have := congrFun e 0
    funext a
    match a with
    | ⟨0, _⟩ => rfl
    | ⟨1, _⟩ => exact this.symm
    | ⟨2, _⟩ => rfl
  · rintro ⟨k, rfl⟩
    funext a
    match a with
    | ⟨0, _⟩ => rfl

end Cert.Proof

end

end
-- ==== Proof.RefNorm.lean ====
module

public import proofs.«01_k».proof.Proof.RefSum

/-! The reference's normalisation and pooling of edge products, read at an index. -/

@[expose] public section

set_option maxRecDepth 16384

noncomputable section

namespace Cert.Proof

open Idealize.ShloMosaic Idealize.ShloMosaic.TcCoe Idealize.SL.Sem Cert.ReferenceIdeal Cert.ReferenceIdeal.Gen Cert.ReferenceIdeal.Value

/-- The edge products less their channel's mean. -/
def cenE (y : FVec Ideal S8x64x2048x20 .f32) : FVec Ideal S8x64x2048x20 .f32 :=
  subf y (broadcastInDim S8x64x2048x20 ![0, 1, 2, 3] bcast_S1x64x1x1_S8x64x2048x20_0_1_2_3 (Host.divf (broadcastInDim S1x64x1x1 ![1] bcast_S64_S1x64x1x1_1 (Host.reduceAdd y (constant S_ .f32 0x00000000#32) reducesTo_S8x64x2048x20_S64_d0_2_3 h_S_)) (broadcastInDim S1x64x1x1 ![] bcast_S_S1x64x1x1 (constant S_ .f32 0x48A00000#32))))

/-- The number of edges as the reference counts it. -/
def cntE : FVec Ideal S_ .f32 := subf (constant S_ .f32 0x48A00000#32) (sitofp .f32 (constantI S_ 32 0#32))

/-- The channels' variances from the centred products. -/
def varE (u : FVec Ideal S8x64x2048x20 .f32) (n : FVec Ideal S_ .f32) : FVec Ideal S1x64x1x1 .f32 :=
  select (broadcastInDim S1x64x1x1 ![] bcast_S_S1x64x1x1 (cmpf .ogt n (constant S_ .f32 0x00000000#32))) (Host.divf (broadcastInDim S1x64x1x1 ![1] bcast_S64_S1x64x1x1_1 (Host.reduceAdd (mulf u u) (constant S_ .f32 0x00000000#32) reducesTo_S8x64x2048x20_S64_d0_2_3 h_S_)) (broadcastInDim S1x64x1x1 ![] bcast_S_S1x64x1x1 n)) (broadcastInDim S1x64x1x1 ![] bcast_S_S1x64x1x1 (id (constant S_ .f32 0x7FC00000#32)))

/-- The normalised edge products, from the centred ones and the variances. -/
def scaleE (u : FVec Ideal S8x64x2048x20 .f32) (v : FVec Ideal S1x64x1x1 .f32) (g b : FVec Ideal S64 .f32) : FVec Ideal S8x64x2048x20 .f32 :=
  addf (mulf (Host.divf u (broadcastInDim S8x64x2048x20 ![0, 1, 2, 3] bcast_S1x64x1x1_S8x64x2048x20_0_1_2_3 (Host.sqrt (addf v (broadcastInDim S1x64x1x1 ![] bcast_S_S1x64x1x1 (constant S_ .f32 0x3727C5AC#32)))))) (broadcastInDim S8x64x2048x20 ![0, 1, 2, 3] bcast_S1x64x1x1_S8x64x2048x20_0_1_2_3 (shapeCast _ g shapeCasts_S64_S1x64x1x1))) (broadcastInDim S8x64x2048x20 ![0, 1, 2, 3] bcast_S1x64x1x1_S8x64x2048x20_0_1_2_3 (shapeCast _ b shapeCasts_S64_S1x64x1x1))

/-- The normalised edge products. -/
def bnE (y : FVec Ideal S8x64x2048x20 .f32) (g b : FVec Ideal S64 .f32) : FVec Ideal S8x64x2048x20 .f32 := scaleE (cenE y) (varE (cenE y) cntE) g b

/-- The activated products' largest over the neighbours. -/
def poolE (z : FVec Ideal S8x64x2048x20 .f32) : FVec Ideal S8x64x2048 .f32 :=
  Host.reduce FloatOps.maximumf (select (cmpf .oge z (broadcastInDim S8x64x2048x20 ![] bcast_S_S8x64x2048x20 (constant S_ .f32 0x00000000#32))) z (mulf (broadcastInDim S8x64x2048x20 ![] bcast_S_S8x64x2048x20 (id (constant S_ .f32 0x3E4CCCCD#32))) z)) (constant S_ .f32 0xFF800000#32) reducesTo_S8x64x2048x20_S8x64x2048_d3 h_S_

/-- A channel of the edge products less its mean. -/
theorem cenE_at (y : FVec Ideal S8x64x2048x20 .f32) (b : Fin 8) (o : Fin 64) (i : Fin 2048) (k : Fin 20) :
    cenE y (ix4 b o i k) = (y (ix4 b o i k) : EReal) - Ideal.div (Ideal.hostReduceAdd reducesTo_S8x64x2048x20_S64_d0_2_3 y 0 (ix1 o)) (Ideal.ofBits .f32 0x48A00000#32) := by
  unfold cenE; pointwise

/-- The number of edges a layer's variance divides by. -/
theorem cntE_at : cntE ix0 = ((327680 : ℝ) : EReal) := by
  unfold cntE
  show Ideal.ofBits .f32 0x48A00000#32 - (((0#32 : BitVec 32).toInt : ℝ) : EReal) = _
  rw [word_edges]; simp

/-- A layer's variance is the sum of the squares over the count. -/
theorem varE_at (u : FVec Ideal S8x64x2048x20 .f32) (n : FVec Ideal S_ .f32) (hn : (0 : EReal) < n ix0) (o : Fin 64) :
    varE u n (ix4 0 o 0 0) = Ideal.div (Ideal.hostReduceAdd reducesTo_S8x64x2048x20_S64_d0_2_3 (mulf u u) 0 (ix1 o)) (n ix0) := by
  unfold varE
  generalize hm : mulf u u = m
  generalize id (constant (F := Ideal) S_ .f32 0x7FC00000#32) = q
  pointwise
  exact if_pos hn

/-- A layer's normalisation at an edge. -/
theorem scaleE_at (u : FVec Ideal S8x64x2048x20 .f32) (v : FVec Ideal S1x64x1x1 .f32) (g h : FVec Ideal S64 .f32) (b : Fin 8) (o : Fin 64) (i : Fin 2048) (k : Fin 20) :
    scaleE u v g h (ix4 b o i k) = Ideal.div (u (ix4 b o i k)) (Ideal.sqrt (v (ix4 0 o 0 0) + Ideal.ofBits .f32 0x3727C5AC#32)) * g (ix1 o) + h (ix1 o) := by
  unfold scaleE; pointwise

/-- The rectifier and the maximum over the neighbours at a point. -/
theorem poolE_at (z : FVec Ideal S8x64x2048x20 .f32) (b : Fin 8) (o : Fin 64) (i : Fin 2048) :
    poolE z (ix3 b o i) = Finset.fold max (Ideal.ofBits FTy.f32 0xFF800000#32)
      (fun k => if (0 : EReal) ≤ z (ix4 b o i k) then z (ix4 b o i k) else Ideal.ofBits .f32 0x3E4CCCCD#32 * z (ix4 b o i k)) (Finset.univ : Finset (Fin 20)) := by
  unfold poolE id; pointwise

/-- The largest of twenty reals, folded from `-∞`. -/
theorem fold_max_coe (f : Fin 20 → ℝ) : Finset.fold max (⊥ : EReal) (fun k => (f k : EReal)) (Finset.univ : Finset (Fin 20)) = (maxOf f : EReal) := by
  have hs : Finset.fold max (⊥ : EReal) (fun k => (f k : EReal)) (Finset.univ : Finset (Fin 20)) = Finset.univ.sup fun k => (f k : EReal) := rfl
  rw [hs]
  obtain ⟨k, -, hk⟩ := Finset.exists_mem_eq_sup (Finset.univ : Finset (Fin 20)) ⟨0, Finset.mem_univ _⟩ fun k => (f k : EReal)
  have h : maxOf f = f k := maxOf_eq f _ ⟨k, rfl⟩ fun l => by
    have : (f l : EReal) ≤ Finset.univ.sup fun k => (f k : EReal) := Finset.le_sup (f := fun k => (f k : EReal)) (Finset.mem_univ l)
    rw [hk] at this
    exact EReal.coe_le_coe_iff.mp this
  rw [hk, h]

/-- The activation of a real, tested by "at least zero" or by "above zero". -/
theorem leaky_ge (z : EReal) : (if 0 ≤ z then z else (slope : EReal) * z) = leaky z := by
  unfold leaky
  rcases lt_trichotomy 0 z with h | h | h
  · rw [if_pos h, if_pos h.le]
  · subst h; simp
  · rw [if_neg (not_lt.mpr h.le), if_neg (not_le.mpr h)]

section
variable (y : FVec Ideal S8x64x2048x20 .f32) (Y : Fin 8 → Fin 2048 → Fin 20 → Fin 64 → ℝ) (hy : ∀ b i k o, y (ix4 b o i k) = (Y b i k o : EReal))
include hy

/-- The centred edge products of real entries are real. -/
theorem cenE_coe (b : Fin 8) (i : Fin 2048) (k : Fin 20) (o : Fin 64) :
    cenE y (ix4 b o i k) = ((Y b i k o - mean 327680 (channel Y o) : ℝ) : EReal) := by
  rw [cenE_at, sum_edges, word_edges, Ideal.div_coe (by norm_num), hy]
  have e : ∑ p : Fin 8 × Fin 2048 × Fin 20, y (ix4 p.1 o p.2.1 p.2.2) = ((∑ p, channel Y o p : ℝ) : EReal) := by
    rw [← sum_coe]; exact Finset.sum_congr rfl fun p _ => hy _ _ _ _
  rw [e, ← EReal.coe_mul, ← EReal.coe_sub, mul_one_div]
  rfl

/-- A layer's variance of real entries is the real variance. -/
theorem varE_coe (o : Fin 64) : varE (cenE y) cntE (ix4 0 o 0 0) = (var 327680 (channel Y o) : EReal) := by
  rw [varE_at _ _ (by rw [cntE_at]; exact_mod_cast (by norm_num : (0:ℝ) < 327680)), cntE_at, sum_edges, Ideal.div_coe (by norm_num)]
  have e : ∑ p : Fin 8 × Fin 2048 × Fin 20, mulf (cenE y) (cenE y) (ix4 p.1 o p.2.1 p.2.2)
      = ((∑ p, (channel Y o p - mean 327680 (channel Y o)) * (channel Y o p - mean 327680 (channel Y o)) : ℝ) : EReal) := by
    rw [← sum_coe]
    refine Finset.sum_congr rfl fun p _ => ?_
    show (cenE y (ix4 p.1 o p.2.1 p.2.2) : EReal) * cenE y (ix4 p.1 o p.2.1 p.2.2) = _
    rw [cenE_coe y Y hy, ← EReal.coe_mul]
    rfl
  rw [e, ← EReal.coe_mul, mul_one_div]
  rfl

/-- A layer's normalisation of real entries is real. -/
theorem bnE_coe (g h : FVec Ideal S64 .f32) (G H : Fin 64 → ℝ) (hg : ∀ o, g (ix1 o) = (G o : EReal)) (hh : ∀ o, h (ix1 o) = (H o : EReal))
    (b : Fin 8) (i : Fin 2048) (k : Fin 20) (o : Fin 64) :
    bnE y g h (ix4 b o i k) = (norm (mean 327680 (channel Y o)) (var 327680 (channel Y o)) (G o) (H o) (Y b i k o) : EReal) := by
  unfold bnE
  have hv : 0 < var 327680 (channel Y o) + eps := add_pos_of_nonneg_of_pos (var_nonneg _ (by norm_num) _) eps_pos
  rw [scaleE_at, cenE_coe y Y hy, varE_coe y Y hy, word_eps, ← EReal.coe_add, Ideal.sqrt_coe, if_neg (not_lt.mpr hv.le),
    Ideal.div_coe (Real.sqrt_pos.mpr hv).ne', hg, hh, ← EReal.coe_mul, ← EReal.coe_mul, ← EReal.coe_add, mul_one_div]
  rfl

/-- The pooled normalised products are the layer's features. -/
theorem layer_ref (g h : FVec Ideal S64 .f32) (G H : Fin 64 → ℝ) (hg : ∀ o, g (ix1 o) = (G o : EReal)) (hh : ∀ o, h (ix1 o) = (H o : EReal))
    (b : Fin 8) (i : Fin 2048) (o : Fin 64) : poolE (bnE y g h) (ix3 b o i) = (layer Y G H b i o : EReal) := by
  rw [poolE_at, word_bot, word_slope]
  refine Eq.trans ?_ (fold_max_coe _)
  congr 1
  funext k
  rw [leaky_ge, bnE_coe y Y hy g h G H hg hh, leaky_coe]

end

end Cert.Proof

end

end
-- ==== Proof.RefFinal.lean ====
module

public import proofs.«01_k».proof.Proof.RefNorm

/-! The reference's fused product, its normalisation and its activation, over plain operands. -/

@[expose] public section

set_option maxRecDepth 16384

noncomputable section

namespace Cert.Proof

open Idealize.ShloMosaic Idealize.ShloMosaic.TcCoe Idealize.SL.Sem Cert.ReferenceIdeal Cert.ReferenceIdeal.Gen Cert.ReferenceIdeal.Value

/-- The fused product of both layers' features. -/
def fuseE (p q : FVec Ideal S8x64x2048 .f32) (w : FVec Ideal S256x128 .f32) : FVec Ideal S8x256x2048 .f32 :=
  transpose S8x256x2048 [0, 2, 1] (Host.dotGeneral dot_S8x128x2048_S256x128_S8x2048x256_1_1_02_0_n_n none (concatenate S8x128x2048 1 [⟨S8x64x2048, p⟩, ⟨S8x64x2048, q⟩] concatenates_S8x64x2048_S8x64x2048_S8x128x2048_d1) w) transposes_S8x2048x256_S8x256x2048_0_2_1

/-- The fused product at a point: the weights against both layers' features. -/
theorem fuseE_at (p q : FVec Ideal S8x64x2048 .f32) (w : FVec Ideal S256x128 .f32) (b : Fin 8) (i : Fin 2048) (o : Fin 256) :
    fuseE p q w (ix3 b o i) = ∑ c : Fin 64, p (ix3 b c i) * w (ix2 o ⟨c.val, by omega⟩) + ∑ c : Fin 64, q (ix3 b c i) * w (ix2 o ⟨64 + c.val, by omega⟩) := by
  unfold fuseE; pointwise

/-- The fused products less their channel's mean. -/
def cenP (y : FVec Ideal S8x256x2048 .f32) : FVec Ideal S8x256x2048 .f32 :=
  subf y (broadcastInDim S8x256x2048 ![0, 1, 2] bcast_S1x256x1_S8x256x2048_0_1_2 (Host.divf (broadcastInDim S1x256x1 ![1] bcast_S256_S1x256x1_1 (Host.reduceAdd y (constant S_ .f32 0x00000000#32) reducesTo_S8x256x2048_S256_d0_2 h_S_)) (broadcastInDim S1x256x1 ![] bcast_S_S1x256x1 (constant S_ .f32 0x46800000#32))))

/-- The number of points as the reference counts it. -/
def cntP : FVec Ideal S_ .f32 := subf (constant S_ .f32 0x46800000#32) (sitofp .f32 (constantI S_ 32 0#32))

/-- The channels' variances from the centred products. -/
def varP (u : FVec Ideal S8x256x2048 .f32) (n : FVec Ideal S_ .f32) : FVec Ideal S1x256x1 .f32 :=
  select (broadcastInDim S1x256x1 ![] bcast_S_S1x256x1 (cmpf .ogt n (constant S_ .f32 0x00000000#32))) (Host.divf (broadcastInDim S1x256x1 ![1] bcast_S256_S1x256x1_1 (Host.reduceAdd (mulf u u) (constant S_ .f32 0x00000000#32) reducesTo_S8x256x2048_S256_d0_2 h_S_)) (broadcastInDim S1x256x1 ![] bcast_S_S1x256x1 n)) (broadcastInDim S1x256x1 ![] bcast_S_S1x256x1 (id (constant S_ .f32 0x7FC00000#32)))

/-- The normalised products, from the centred ones and the variances. -/
def scaleP (u : FVec Ideal S8x256x2048 .f32) (v : FVec Ideal S1x256x1 .f32) (g b : FVec Ideal S256 .f32) : FVec Ideal S8x256x2048 .f32 :=
  addf (mulf (Host.divf u (broadcastInDim S8x256x2048 ![0, 1, 2] bcast_S1x256x1_S8x256x2048_0_1_2 (Host.sqrt (addf v (broadcastInDim S1x256x1 ![] bcast_S_S1x256x1 (constant S_ .f32 0x3727C5AC#32)))))) (broadcastInDim S8x256x2048 ![0, 1, 2] bcast_S1x256x1_S8x256x2048_0_1_2 (shapeCast _ g shapeCasts_S256_S1x256x1))) (broadcastInDim S8x256x2048 ![0, 1, 2] bcast_S1x256x1_S8x256x2048_0_1_2 (shapeCast _ b shapeCasts_S256_S1x256x1))

/-- The normalised fused products. -/
def bnP (y : FVec Ideal S8x256x2048 .f32) (g b : FVec Ideal S256 .f32) : FVec Ideal S8x256x2048 .f32 := scaleP (cenP y) (varP (cenP y) cntP) g b

/-- The activated products, points first. -/
def outP (z : FVec Ideal S8x256x2048 .f32) : FVec Ideal S8x2048x256 .f32 :=
  transpose S8x2048x256 [0, 2, 1] (select (cmpf .oge z (broadcastInDim S8x256x2048 ![] bcast_S_S8x256x2048 (constant S_ .f32 0x00000000#32))) z (mulf (broadcastInDim S8x256x2048 ![] bcast_S_S8x256x2048 (id (constant S_ .f32 0x3E4CCCCD#32))) z)) transposes_S8x256x2048_S8x2048x256_0_2_1

/-- A column of the fused product less its mean. -/
theorem cenP_at (y : FVec Ideal S8x256x2048 .f32) (b : Fin 8) (o : Fin 256) (i : Fin 2048) :
    cenP y (ix3 b o i) = (y (ix3 b o i) : EReal) - Ideal.div (Ideal.hostReduceAdd reducesTo_S8x256x2048_S256_d0_2 y 0 (ix1 o)) (Ideal.ofBits .f32 0x46800000#32) := by
  unfold cenP; pointwise

/-- The number of points the last layer's variance divides by. -/
theorem cntP_at : cntP ix0 = ((16384 : ℝ) : EReal) := by
  unfold cntP
  show Ideal.ofBits .f32 0x46800000#32 - (((0#32 : BitVec 32).toInt : ℝ) : EReal) = _
  rw [word_points]; simp

/-- The last layer's variance is the sum of the squares over the count. -/
theorem varP_at (u : FVec Ideal S8x256x2048 .f32) (n : FVec Ideal S_ .f32) (hn : (0 : EReal) < n ix0) (o : Fin 256) :
    varP u n (ix3 0 o 0) = Ideal.div (Ideal.hostReduceAdd reducesTo_S8x256x2048_S256_d0_2 (mulf u u) 0 (ix1 o)) (n ix0) := by
  unfold varP
  generalize hm : mulf u u = m
  generalize id (constant (F := Ideal) S_ .f32 0x7FC00000#32) = q
  pointwise
  exact if_pos hn

/-- The last layer's normalisation at an entry. -/
theorem scaleP_at (u : FVec Ideal S8x256x2048 .f32) (v : FVec Ideal S1x256x1 .f32) (g h : FVec Ideal S256 .f32) (b : Fin 8) (o : Fin 256) (i : Fin 2048) :
    scaleP u v g h (ix3 b o i) = Ideal.div (u (ix3 b o i)) (Ideal.sqrt (v (ix3 0 o 0) + Ideal.ofBits .f32 0x3727C5AC#32)) * g (ix1 o) + h (ix1 o) := by
  unfold scaleP; pointwise

/-- The last rectifier and transpose at an entry. -/
theorem outP_at (z : FVec Ideal S8x256x2048 .f32) (b : Fin 8) (o : Fin 256) (i : Fin 2048) :
    outP z (ix3 b i o) = if (0 : EReal) ≤ z (ix3 b o i) then z (ix3 b o i) else Ideal.ofBits .f32 0x3E4CCCCD#32 * z (ix3 b o i) := by
  unfold outP id; pointwise

section
variable (y : FVec Ideal S8x256x2048 .f32) (Y : Fin 8 → Fin 2048 → Fin 256 → ℝ) (hy : ∀ b i o, y (ix3 b o i) = (Y b i o : EReal))
include hy

/-- The centred fused product of real entries is real. -/
theorem cenP_coe (b : Fin 8) (i : Fin 2048) (o : Fin 256) :
    cenP y (ix3 b o i) = ((Y b i o - mean 16384 (column Y o) : ℝ) : EReal) := by
  rw [cenP_at, sum_points, word_points, Ideal.div_coe (by norm_num), hy]
  have e : ∑ p : Fin 8 × Fin 2048, y (ix3 p.1 o p.2) = ((∑ p, column Y o p : ℝ) : EReal) := by
    rw [← sum_coe]; exact Finset.sum_congr rfl fun p _ => hy _ _ _
  rw [e, ← EReal.coe_mul, ← EReal.coe_sub, mul_one_div]
  rfl

/-- The last layer's variance of real entries is the real variance. -/
theorem varP_coe (o : Fin 256) : varP (cenP y) cntP (ix3 0 o 0) = (var 16384 (column Y o) : EReal) := by
  rw [varP_at _ _ (by rw [cntP_at]; exact_mod_cast (by norm_num : (0:ℝ) < 16384)), cntP_at, sum_points, Ideal.div_coe (by norm_num)]
  have e : ∑ p : Fin 8 × Fin 2048, mulf (cenP y) (cenP y) (ix3 p.1 o p.2)
      = ((∑ p, (column Y o p - mean 16384 (column Y o)) * (column Y o p - mean 16384 (column Y o)) : ℝ) : EReal) := by
    rw [← sum_coe]
    refine Finset.sum_congr rfl fun p _ => ?_
    show (cenP y (ix3 p.1 o p.2) : EReal) * cenP y (ix3 p.1 o p.2) = _
    rw [cenP_coe y Y hy, ← EReal.coe_mul]
    rfl
  rw [e, ← EReal.coe_mul, mul_one_div]
  rfl

/-- The activated normalised fused products are the network's last step. -/
theorem final_ref (g h : FVec Ideal S256 .f32) (G : Fin 256 → ℝ) (H : Fin 256 → EReal) (hg : ∀ o, g (ix1 o) = (G o : EReal)) (hh : ∀ o, h (ix1 o) = H o)
    (b : Fin 8) (i : Fin 2048) (o : Fin 256) : outP (bnP y g h) (ix3 b i o) = final Y G H b i o := by
  have hv : 0 < var 16384 (column Y o) + eps := add_pos_of_nonneg_of_pos (var_nonneg _ (by norm_num) _) eps_pos
  rw [outP_at, word_slope, leaky_ge]
  unfold final bnP
  rw [scaleP_at, cenP_coe y Y hy, varP_coe y Y hy, word_eps, ← EReal.coe_add, Ideal.sqrt_coe, if_neg (not_lt.mpr hv.le),
    Ideal.div_coe (Real.sqrt_pos.mpr hv).ne', hg, hh, ← EReal.coe_mul, ← EReal.coe_mul, mul_one_div]

end

end Cert.Proof

end

end
-- ==== Proof.RefPlain.lean ====
module

public import proofs.«01_k».proof.Proof.RefEdge
public import proofs.«01_k».proof.Proof.RefFinal

/-! The reference as one function of its ten operands, and its value: the network's mathematics. -/

@[expose] public section

set_option maxRecDepth 16384

noncomputable section

namespace Cert.Proof

open Idealize.ShloMosaic Idealize.ShloMosaic.TcCoe Idealize.SL.Sem Cert.ReferenceIdeal Cert.ReferenceIdeal.Gen Cert.ReferenceIdeal.Value

/-- The point coordinates, transposed twice as the reference does. -/
def flipE (a : FVec Ideal S8x2048x3 .f32) : FVec Ideal S8x2048x3 .f32 :=
  transpose S8x2048x3 [0, 2, 1] (transpose S8x3x2048 [0, 2, 1] a transposes_S8x2048x3_S8x3x2048_0_2_1) transposes_S8x3x2048_S8x2048x3_0_2_1

/-- The features, points first. -/
def swapE (p : FVec Ideal S8x64x2048 .f32) : FVec Ideal S8x2048x64 .f32 := transpose S8x2048x64 [0, 2, 1] p transposes_S8x64x2048_S8x2048x64_0_2_1

/-- The positions of the twenty largest values along the last axis. -/
def topE (d : FVec Ideal S8x2048x2048 .f32) : IVec S8x2048x20 32 := (Host.topK S8x2048x20 2 (FloatOps.cmpfTotal (F := Ideal) (φ := .f32) .gt) d sliceFits_S8x2048x2048_S8x2048x20).2

/-- The first layer's edge products. -/
def edges0 (u : FVec Ideal S8x2048x3 .f32) (w : FVec Ideal S64x6 .f32) : FVec Ideal S8x64x2048x20 .f32 := mulE0 (rows0 u (topE (distE0 u))) u w

/-- The second layer's edge products. -/
def edges1 (u : FVec Ideal S8x2048x64 .f32) (w : FVec Ideal S64x128 .f32) : FVec Ideal S8x64x2048x20 .f32 := mulE1 (rows1 u (topE (distE1 u))) u w

/-- The first layer. -/
def layer0E (a : FVec Ideal S8x2048x3 .f32) (w : FVec Ideal S64x6 .f32) (g h : FVec Ideal S64 .f32) : FVec Ideal S8x64x2048 .f32 := poolE (bnE (edges0 (flipE a) w) g h)

/-- The second layer. -/
def layer1E (p : FVec Ideal S8x64x2048 .f32) (w : FVec Ideal S64x128 .f32) (g h : FVec Ideal S64 .f32) : FVec Ideal S8x64x2048 .f32 := poolE (bnE (edges1 (swapE p) w) g h)

/-- The whole reference from the first layer's features on. -/
def tailE (p : FVec Ideal S8x64x2048 .f32) (w1 : FVec Ideal S64x128 .f32) (g1 h1 : FVec Ideal S64 .f32) (wf : FVec Ideal S256x128 .f32) (gf hf : FVec Ideal S256 .f32) : FVec Ideal S8x2048x256 .f32 :=
  outP (bnP (fuseE p (layer1E p w1 g1 h1) wf) gf hf)

/-- Transposing the points twice gives the points. -/
theorem flipE_at (a : FVec Ideal S8x2048x3 .f32) (b : Fin 8) (i : Fin 2048) (c : Fin 3) : flipE a (ix3 b i c) = a (ix3 b i c) := by
  unfold flipE; pointwise

/-- The features with points before channels. -/
theorem swapE_at (p : FVec Ideal S8x64x2048 .f32) (b : Fin 8) (i : Fin 2048) (c : Fin 64) : swapE p (ix3 b i c) = p (ix3 b c i) := by
  unfold swapE; pointwise

/-- The positions of the largest distances are the neighbours. -/
theorem topE_at {C : ℕ} (X : Fin 8 → Fin 2048 → Fin C → ℝ) (d : FVec Ideal S8x2048x2048 .f32) (hd : ∀ b i j, d (ix3 b i j) = (dist X b i j : EReal))
    (b : Fin 8) (i : Fin 2048) (k : Fin 20) : topE d (ix3 b i k) = BitVec.ofNat 32 (near X b i k).val :=
  (top_index _ _ b i k).trans (congrArg (fun f => BitVec.ofNat 32 (nbr f k).val) (funext fun j => hd b i j))

/-- The first layer's edge products are those of the given reals. -/
theorem edges0_ref (u : FVec Ideal S8x2048x3 .f32) (w : FVec Ideal S64x6 .f32) (X : Fin 8 → Fin 2048 → Fin 3 → ℝ) (w' : Fin 64 → Fin 6 → ℝ)
    (hu : ∀ b i c, u (ix3 b i c) = (X b i c : EReal)) (hw : ∀ o c, w (ix2 o c) = (w' o c : EReal)) (b : Fin 8) (i : Fin 2048) (k : Fin 20) (o : Fin 64) :
    edges0 u w (ix4 b o i k) = (conv0 X w' b i k o : EReal) := by
  have ht := topE_at X (distE0 u) (fun b i j => (distE0_at u b i j).trans (dist_coe X (fun b i c => u (ix3 b i c)) hu b i j)) b i k
  exact (mulE0_at _ u w b i k o).trans (edge_coe X (fun ch o => w' o ⟨ch.val, by omega⟩) (fun ch o => w' o ⟨3 + ch.val, by omega⟩) b i k o _ _ _ _
    (fun c => (rows0_at u _ b i k c _ ht).trans (hu _ _ _)) (hu b i) (fun c => hw o _) (fun c => hw o _))

/-- The second layer's edge products are those of the given reals. -/
theorem edges1_ref (u : FVec Ideal S8x2048x64 .f32) (w : FVec Ideal S64x128 .f32) (X : Fin 8 → Fin 2048 → Fin 64 → ℝ) (w' : Fin 64 → Fin 128 → ℝ)
    (hu : ∀ b i c, u (ix3 b i c) = (X b i c : EReal)) (hw : ∀ o c, w (ix2 o c) = (w' o c : EReal)) (b : Fin 8) (i : Fin 2048) (k : Fin 20) (o : Fin 64) :
    edges1 u w (ix4 b o i k) = (conv1 X w' b i k o : EReal) := by
  have ht := topE_at X (distE1 u) (fun b i j => (distE1_at u b i j).trans (dist_coe X (fun b i c => u (ix3 b i c)) hu b i j)) b i k
  exact (mulE1_at _ u w b i k o).trans (edge_coe X (fun ch o => w' o ⟨ch.val, by omega⟩) (fun ch o => w' o ⟨64 + ch.val, by omega⟩) b i k o _ _ _ _
    (fun c => (rows1_at u _ b i k c _ ht).trans (hu _ _ _)) (hu b i) (fun c => hw o _) (fun c => hw o _))

section
variable (a0 : FVec Ideal S8x2048x3 .f32) (a1 : FVec Ideal S64x6 .f32) (a2 a3 : FVec Ideal S64 .f32) (a4 : FVec Ideal S64x128 .f32) (a5 a6 : FVec Ideal S64 .f32)
  (a7 : FVec Ideal S256x128 .f32) (a8 a9 : FVec Ideal S256 .f32)
  (x : Fin 8 → Fin 2048 → Fin 3 → ℝ) (w0 : Fin 64 → Fin 6 → ℝ) (g0 b0 : Fin 64 → ℝ) (w1 : Fin 64 → Fin 128 → ℝ) (g1 b1 : Fin 64 → ℝ)
  (wf : Fin 256 → Fin 128 → ℝ) (gf : Fin 256 → ℝ) (bf : Fin 256 → EReal)
  (h0 : ∀ b i c, a0 (ix3 b i c) = (x b i c : EReal)) (h1 : ∀ o c, a1 (ix2 o c) = (w0 o c : EReal)) (h2 : ∀ o, a2 (ix1 o) = (g0 o : EReal)) (h3 : ∀ o, a3 (ix1 o) = (b0 o : EReal))
  (h4 : ∀ o c, a4 (ix2 o c) = (w1 o c : EReal)) (h5 : ∀ o, a5 (ix1 o) = (g1 o : EReal)) (h6 : ∀ o, a6 (ix1 o) = (b1 o : EReal))
  (h7 : ∀ o c, a7 (ix2 o c) = (wf o c : EReal)) (h8 : ∀ o, a8 (ix1 o) = (gf o : EReal)) (h9 : ∀ o, a9 (ix1 o) = bf o)
include h0 h1 h2 h3

/-- The reference's first layer is the network's. -/
theorem layer0_ref (b : Fin 8) (i : Fin 2048) (o : Fin 64) : layer0E a0 a1 a2 a3 (ix3 b o i) = (feat0 x w0 g0 b0 b i o : EReal) :=
  layer_ref _ _ (edges0_ref _ a1 x w0 (fun b i c => (flipE_at a0 b i c).trans (h0 b i c)) h1) a2 a3 g0 b0 h2 h3 b i o

include h4 h5 h6

/-- The reference's second layer is the network's. -/
theorem layer1_ref (b : Fin 8) (i : Fin 2048) (o : Fin 64) : layer1E (layer0E a0 a1 a2 a3) a4 a5 a6 (ix3 b o i) = (feat1 x w0 g0 b0 w1 g1 b1 b i o : EReal) :=
  layer_ref _ _ (edges1_ref _ a4 (feat0 x w0 g0 b0) w1 (fun b i c => (swapE_at _ b i c).trans (layer0_ref a0 a1 a2 a3 x w0 g0 b0 h0 h1 h2 h3 b i c)) h4) a5 a6 g1 b1 h5 h6 b i o

include h7 h8 h9

/-- The reference's result is the network's. -/
theorem plain_ref (b : Fin 8) (i : Fin 2048) (o : Fin 256) :
    tailE (layer0E a0 a1 a2 a3) a4 a5 a6 a7 a8 a9 (ix3 b i o) = model x w0 g0 b0 w1 g1 b1 wf gf bf b i o := by
  refine final_ref _ _ (fun b i o => ?_) a8 a9 gf bf h8 h9 b i o
  rw [fuseE_at]
  simp only [layer0_ref a0 a1 a2 a3 x w0 g0 b0 h0 h1 h2 h3, layer1_ref a0 a1 a2 a3 a4 a5 a6 x w0 g0 b0 w1 g1 b1 h0 h1 h2 h3 h4 h5 h6, h7, ← EReal.coe_mul, sum_coe, ← EReal.coe_add]
  rfl

end

end Cert.Proof

end

end
-- ==== Proof.RefValue.lean ====
module

public import proofs.«01_k».proof.Proof.RefPlain

/-! The reference's composed term is the plain function of its operands. -/

@[expose] public section

set_option maxRecDepth 16384

noncomputable section

namespace Cert.Proof

open Idealize.ShloMosaic Idealize.ShloMosaic.TcCoe Idealize.SL.Sem Cert.ReferenceIdeal Cert.ReferenceIdeal.Gen Cert.ReferenceIdeal.Value

variable (W : Valuation τ sig (Elt Ideal))

/-- The printed points, as the search reads them. -/
theorem v1_eq : res_main_v1 W = flipE (W (Proc.tc.devRef main_arg0)) := by unfold res_main_v1 res_main_v0 flipE; rfl

/-- The printed points, as the edge features read them. -/
theorem v14_eq : res_main_v14 W = flipE (W (Proc.tc.devRef main_arg0)) := by unfold res_main_v14 res_main_v0 flipE; rfl

/-- The printed distances of the first layer. -/
theorem v13_eq : res_main_v13 W = distE0 (res_main_v1 W) := by unfold res_main_v13 res_main_v6 distE0; rfl

/-- The printed neighbour indices of the first layer. -/
theorem indices_eq : res_main_indices W = topE (res_main_v13 W) := by unfold res_main_indices topE; rfl

/-- The printed edge products of the first layer. -/
theorem v28_eq : res_main_v28 W = mulE0 (rows0 (res_main_v14 W) (res_main_indices W)) (res_main_v14 W) (W (Proc.tc.devRef main_arg1)) := by
  unfold res_main_v28 res_main_v23 mulE0 rows0 rowsE; rfl

/-- The printed centred products of the first layer. -/
theorem c5_eq : res_main_call0_v5 W = cenE (res_main_v28 W) := by unfold res_main_call0_v5 cenE; rfl

/-- The printed normalised products of the first layer. -/
theorem v46_eq : res_main_v46 W = bnE (res_main_v28 W) (W (Proc.tc.devRef main_arg2)) (W (Proc.tc.devRef main_arg3)) := by
  unfold res_main_v46 res_main_call0_v5 res_main_call0_v8 bnE scaleE varE cntE cenE; rfl

/-- The printed features of the first layer. -/
theorem v48_eq : res_main_v48 W = poolE (res_main_v46 W) := by unfold res_main_v48 poolE; rfl

/-- The first layer's features. -/
theorem layer0_eq : res_main_v48 W = layer0E (W (Proc.tc.devRef main_arg0)) (W (Proc.tc.devRef main_arg1)) (W (Proc.tc.devRef main_arg2)) (W (Proc.tc.devRef main_arg3)) := by
  rw [v48_eq, v46_eq, v28_eq, indices_eq, v13_eq, v14_eq, v1_eq]
  unfold layer0E edges0
  rfl

/-- The printed features, as the second search reads them. -/
theorem v49_eq : res_main_v49 W = swapE (res_main_v48 W) := by unfold res_main_v49 swapE; rfl

/-- The printed features, as the second layer's edge features read them. -/
theorem v62_eq : res_main_v62 W = swapE (res_main_v48 W) := by unfold res_main_v62 swapE; rfl

/-- The printed distances of the second layer. -/
theorem v61_eq : res_main_v61 W = distE1 (res_main_v49 W) := by unfold res_main_v61 res_main_v54 distE1; rfl

/-- The printed neighbour indices of the second layer. -/
theorem indices_11_eq : res_main_indices_11 W = topE (res_main_v61 W) := by unfold res_main_indices_11 topE; rfl

/-- The printed edge products of the second layer. -/
theorem v76_eq : res_main_v76 W = mulE1 (rows1 (res_main_v62 W) (res_main_indices_11 W)) (res_main_v62 W) (W (Proc.tc.devRef main_arg4)) := by
  unfold res_main_v76 res_main_v71 mulE1 rows1 rowsE; rfl

/-- The printed normalised products of the second layer. -/
theorem v94_eq : res_main_v94 W = bnE (res_main_v76 W) (W (Proc.tc.devRef main_arg5)) (W (Proc.tc.devRef main_arg6)) := by
  unfold res_main_v94 res_main_call2_v5 res_main_call2_v8 bnE scaleE varE cntE cenE; rfl

/-- The second layer's normalised products. -/
theorem layer1_eq : poolE (res_main_v94 W) = layer1E (res_main_v48 W) (W (Proc.tc.devRef main_arg4)) (W (Proc.tc.devRef main_arg5)) (W (Proc.tc.devRef main_arg6)) := by
  rw [v94_eq, v76_eq, indices_11_eq, v61_eq, v62_eq, v49_eq]
  unfold layer1E edges1
  rfl

/-- The printed fused product. -/
theorem v99_eq : res_main_v99 W = fuseE (res_main_v48 W) (poolE (res_main_v94 W)) (W (Proc.tc.devRef main_arg7)) := by
  unfold res_main_v99 fuseE poolE; rfl

/-- The printed normalised fused product. -/
theorem v117_eq : res_main_v117 W = bnP (res_main_v99 W) (W (Proc.tc.devRef main_arg8)) (W (Proc.tc.devRef main_arg9)) := by
  unfold res_main_v117 res_main_call4_v5 res_main_call4_v8 bnP scaleP varP cntP cenP; rfl

/-- The whole reference. -/
theorem tail_eq : outP (res_main_v117 W) = tailE (layer0E (W (Proc.tc.devRef main_arg0)) (W (Proc.tc.devRef main_arg1)) (W (Proc.tc.devRef main_arg2)) (W (Proc.tc.devRef main_arg3)))
    (W (Proc.tc.devRef main_arg4)) (W (Proc.tc.devRef main_arg5)) (W (Proc.tc.devRef main_arg6)) (W (Proc.tc.devRef main_arg7)) (W (Proc.tc.devRef main_arg8)) (W (Proc.tc.devRef main_arg9)) := by
  rw [v117_eq, v99_eq, layer1_eq, layer0_eq]
  unfold tailE
  rfl

/-- Every run of the reference ends with its result the plain function of the arguments' contents. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v119) = outP (res_main_v117 (StableHlo.launchContents m c)) :=
  (θ_run defs _ _).mono (fun r h c => (h c).1) (run m ρ)

end Cert.Proof

end

end
-- ==== Proof.Algebraic.lean ====
module

public import proofs.«01_k».proof.Defs
public import proofs.«01_k».proof.Proof.Finite
public import proofs.«01_k».proof.Proof.Frames
public import proofs.«01_k».proof.Proof.KernelRun
public import proofs.«01_k».proof.Proof.KernelValue2
public import proofs.«01_k».proof.Proof.RefValue
public import Idealize.ShloMosaic.Lib.Claim

/-! The value claim: under exact arithmetic the kernel and the reference leave the same result array. -/

@[expose] public section

set_option maxRecDepth 16384

noncomputable section

namespace Cert.Proof

open Idealize.ShloMosaic Idealize.ShloMosaic.TcCoe Idealize.SL.Sem

attribute [local instance] pre_facts

/-- On a device whose arguments pass the precondition, the contents the kernel's run ends with are the reference's function of the same arguments. -/
theorem same_result (m : (ℓ : Loc Cert.KernelIdeal.nD Cert.KernelIdeal.τ Cert.KernelIdeal.sig) → Buf (Elt Ideal) ℓ) (ρ : Dev Cert.KernelIdeal.nD → PrngReg)
    (c : Dev Cert.KernelIdeal.nD)
    (a0 : FVec Ideal Cert.Pre_finite.S8x2048x3 .f32) (a1 : FVec Ideal Cert.Pre_finite.S64x6 .f32) (a2 a3 : FVec Ideal Cert.Pre_finite.S64 .f32)
    (a4 : FVec Ideal Cert.Pre_finite.S64x128 .f32) (a5 a6 : FVec Ideal Cert.Pre_finite.S64 .f32) (a7 : FVec Ideal Cert.Pre_finite.S256x128 .f32)
    (a8 a9 : FVec Ideal Cert.Pre_finite.S256 .f32)
    (e0 : m ((c.tc : Thread Cert.KernelIdeal.nD Cert.KernelIdeal.τ).loc Cert.KernelIdeal.main_arg0) = a0)
    (e1 : m ((c.tc : Thread Cert.KernelIdeal.nD Cert.KernelIdeal.τ).loc Cert.KernelIdeal.main_arg1) = a1)
    (e2 : m ((c.tc : Thread Cert.KernelIdeal.nD Cert.KernelIdeal.τ).loc Cert.KernelIdeal.main_arg2) = a2)
    (e3 : m ((c.tc : Thread Cert.KernelIdeal.nD Cert.KernelIdeal.τ).loc Cert.KernelIdeal.main_arg3) = a3)
    (e4 : m ((c.tc : Thread Cert.KernelIdeal.nD Cert.KernelIdeal.τ).loc Cert.KernelIdeal.main_arg4) = a4)
    (e5 : m ((c.tc : Thread Cert.KernelIdeal.nD Cert.KernelIdeal.τ).loc Cert.KernelIdeal.main_arg5) = a5)
    (e6 : m ((c.tc : Thread Cert.KernelIdeal.nD Cert.KernelIdeal.τ).loc Cert.KernelIdeal.main_arg6) = a6)
    (e7 : m ((c.tc : Thread Cert.KernelIdeal.nD Cert.KernelIdeal.τ).loc Cert.KernelIdeal.main_arg7) = a7)
    (e8 : m ((c.tc : Thread Cert.KernelIdeal.nD Cert.KernelIdeal.τ).loc Cert.KernelIdeal.main_arg8) = a8)
    (e9 : m ((c.tc : Thread Cert.KernelIdeal.nD Cert.KernelIdeal.τ).loc Cert.KernelIdeal.main_arg9) = a9)
    (h : Cert.Pre_finite.fn (F := Ideal) a0 a1 a2 a3 a4 a5 a6 a7 a8 a9 = fun _ => 1#1) :
    Cert.KernelIdeal.Gen.V12 m ρ c Cert.KernelIdeal.main_v72 = tailE (layer0E a0 a1 a2 a3) a4 a5 a6 a7 a8 a9 := by
  obtain ⟨r0, r1, r2, r3, r4, r5, r6, r7, r8⟩ := pre_real a0 a1 a2 a3 a4 a5 a6 a7 a8 a9 h
  have hk := kernel_value m ρ c (w1 := fun o ch => (a4 (ix2 o ch) : EReal).toReal) (g1 := fun o => (a5 (ix1 o) : EReal).toReal) (b1 := fun o => (a6 (ix1 o) : EReal).toReal)
    (wf := fun o ch => (a7 (ix2 o ch) : EReal).toReal) (gf := fun o => (a8 (ix1 o) : EReal).toReal) (bf := fun o => a9 (ix1 o))
    (x := fun b i ch => (a0 (ix3 b i ch) : EReal).toReal) (w0 := fun o ch => (a1 (ix2 o ch) : EReal).toReal)
    (g0 := fun o => (a2 (ix1 o) : EReal).toReal) (b0 := fun o => (a3 (ix1 o) : EReal).toReal)
    (fun b i ch => (congrFun e0 _).trans (r0 _)) (fun o ch => (congrFun e1 _).trans (r1 _)) (fun o => (congrFun e2 _).trans (r2 _)) (fun o => (congrFun e3 _).trans (r3 _))
    (fun o ch => (congrFun e4 _).trans (r4 _)) (fun o => (congrFun e5 _).trans (r5 _)) (fun o => (congrFun e6 _).trans (r6 _))
    (fun o ch => (congrFun e7 _).trans (r7 _)) (fun o => (congrFun e8 _).trans (r8 _)) (fun o => congrFun e9 _)
  have hr := plain_ref a0 a1 a2 a3 a4 a5 a6 a7 a8 a9 (fun b i ch => (a0 (ix3 b i ch) : EReal).toReal) (fun o ch => (a1 (ix2 o ch) : EReal).toReal)
    (fun o => (a2 (ix1 o) : EReal).toReal) (fun o => (a3 (ix1 o) : EReal).toReal) (fun o ch => (a4 (ix2 o ch) : EReal).toReal)
    (fun o => (a5 (ix1 o) : EReal).toReal) (fun o => (a6 (ix1 o) : EReal).toReal) (fun o ch => (a7 (ix2 o ch) : EReal).toReal)
    (fun o => (a8 (ix1 o) : EReal).toReal) (fun o => a9 (ix1 o))
    (fun _ _ _ => r0 _) (fun _ _ => r1 _) (fun _ => r2 _) (fun _ => r3 _) (fun _ _ => r4 _) (fun _ => r5 _) (fun _ => r6 _) (fun _ _ => r7 _) (fun _ => r8 _) (fun _ => rfl)
  funext j
  have hj : j = ix3 (n0 := 8) (n1 := 2048) (n2 := 256) (j 0) (j 1) (j 2) := eq_ix3 (n0 := 8) (n1 := 2048) (n2 := 256) j
  exact (congrArg (Cert.KernelIdeal.Gen.V12 m ρ c Cert.KernelIdeal.main_v72) hj).trans
    (((hk (j 0) (j 1) (j 2)).trans (hr (j 0) (j 1) (j 2)).symm).trans (congrArg (tailE (layer0E a0 a1 a2 a3) a4 a5 a6 a7 a8 a9) hj).symm)

/-- The value claim: whenever the precondition holds of the arguments, which the two programs share, both end with the same result array. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hag
  refine ⟨fun c => Cert.KernelIdeal.Gen.V12 m g c Cert.KernelIdeal.main_v72, ?_, ?_⟩
  · exact (θ_run (Cert.KernelIdeal.defs (F := Ideal)) _ _).mono (fun r h c => ⟨h.1 c, h.2.1 c⟩)
      (θ_run_and (kernel_run (F := Ideal) m g) (Cert.KernelIdeal.Gen.frame (F := Ideal) m g))
  · refine (θ_run (Cert.ReferenceIdeal.defs (F := Ideal)) _ _).mono (fun r h c => ⟨(h.1 c).trans ?_, (h.2 c).2⟩)
      (θ_run_and (reference_run m' g') (Cert.ReferenceIdeal.Value.run (F := Ideal) m' g'))
    obtain ⟨e0, e1, e2, e3, e4, e5, e6, e7, e8, e9⟩ := hag c
    exact (tail_eq _).trans (same_result m g c _ _ _ _ _ _ _ _ _ _ e0.symm e1.symm e2.symm e3.symm e4.symm e5.symm e6.symm e7.symm e8.symm e9.symm
      (by
        have hp := hpre c
        rw [← e0, ← e1, ← e2, ← e3, ← e4, ← e5, ← e6, ← e7, ← e8, ← e9] at hp
        exact hp)).symm

end Cert.Proof

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The certificate's claims: the frames of the three programs, with and without the precondition, the named constant, and the value claim. -/
theorem claim : Cert.Claim := ⟨Cert.Kernel.Gen.facts, Cert.KernelIdeal.Gen.facts, Cert.ReferenceIdeal.Gen.facts, pre_facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, mask_named, algebraic⟩

end Cert.Proof

end
